-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v47) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_v43) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v7_0)) (v1 : (c : Dev Cert.Kernel15Ideal.nD) → Buf (Elt Ideal) ((c.tc : Thread Cert.Kernel15Ideal.nD Cert.Kernel15Ideal.τ).loc Cert.Kernel15Ideal.main_v7_1)) (v2 : (c : Dev Cert.Kernel15Ideal.nD) → Buf (Elt Ideal) ((c.tc : Thread Cert.Kernel15Ideal.nD Cert.Kernel15Ideal.τ).loc Cert.Kernel15Ideal.main_v7_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7_0) = v0 c
          ∧ r.2.mem ((c.tc : Thread Cert.Kernel15Ideal.nD Cert.Kernel15Ideal.τ).loc Cert.Kernel15Ideal.main_v7_1) = v1 c
          ∧ r.2.mem ((c.tc : Thread Cert.Kernel15Ideal.nD Cert.Kernel15Ideal.τ).loc Cert.Kernel15Ideal.main_v7_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_v49) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8256x1024 : Shape := ⟨2, ![8256, 1024]⟩
abbrev S1024x2816 : Shape := ⟨2, ![1024, 2816]⟩
abbrev S2816x1024 : Shape := ⟨2, ![2816, 1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8256x1024 .f32) (main_arg1 : FVec F S8256x1024 .f32) (main_arg2 : FVec F S1024x2816 .f32) (main_arg3 : FVec F S1024x2816 .f32) (main_arg4 : FVec F S2816x1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S8256x1024 .f32 := Host.absf main_arg1
  let main_cst_0 : FVec F S_ .f32 := constant S_ .f32 0x7F800000#32
  let main_v5 : FVec F S8256x1024 .f32 := broadcastInDim S8256x1024 ![] bcast_S_S8256x1024 main_cst_0
  let main_v6 : IVec S8256x1024 1 := cmpf .olt main_v4 main_v5
  let main_c_1 : IVec S_ 1 := constantI S_ 1 1#1
  let main_v7 : IVec S_ 1 := (fun x v => Host.reduce IntOp.andi x v reducesTo_S8256x1024_S_d0_1 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S8256x1024 : Shape := ⟨2, ![8256, 1024]⟩
abbrev S1024x2816 : Shape := ⟨2, ![1024, 2816]⟩
abbrev S2816x1024 : Shape := ⟨2, ![2816, 1024]⟩
abbrev S4x704x1024 : Shape := ⟨3, ![4, 704, 1024]⟩
abbrev S4x8256x704 : Shape := ⟨3, ![4, 8256, 704]⟩
abbrev S1376x1024 : Shape := ⟨2, ![1376, 1024]⟩
abbrev S1x704x1024 : Shape := ⟨3, ![1, 704, 1024]⟩
abbrev S1x1376x704 : Shape := ⟨3, ![1, 1376, 704]⟩
abbrev S704x1024 : Shape := ⟨2, ![704, 1024]⟩
abbrev S1376x704 : Shape := ⟨2, ![1376, 704]⟩

abbrev nBuf : Space → Nat
  | .hbm => 20
  | .vmem => 23
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8256x1024, .bf16⟩
  | .hbm, ⟨6, _⟩ => ⟨S8256x1024, .bf16⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .f32⟩
  | .hbm, ⟨11, _⟩ => ⟨S2816x1024, .bf16⟩
  | .hbm, ⟨12, _⟩ => ⟨S4x704x1024, .bf16⟩
  | .hbm, ⟨13, _⟩ => ⟨S4x8256x704, .bf16⟩
  | .hbm, ⟨14, _⟩ => ⟨S4x8256x704, .bf16⟩
  | .hbm, ⟨15, _⟩ => ⟨S4x8256x704, .bf16⟩
  | .hbm, ⟨16, _⟩ => ⟨S2816x1024, .bf16⟩
  | .hbm, ⟨17, _⟩ => ⟨S4x704x1024, .bf16⟩
  | .hbm, ⟨18, _⟩ => ⟨S4x8256x704, .bf16⟩
  | .hbm, ⟨19, _⟩ => ⟨S4x8256x704, .bf16⟩
  | .local _ .vmem, ⟨0, _⟩ => ⟨S1376x1024, .bf16⟩
  | .local _ .vmem, ⟨1, _⟩ => ⟨S1376x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1376x704, .bf16⟩
  | .local _ .vmem, ⟨7, _⟩ => ⟨S1x1376x704, .bf16⟩
  | .local _ .vmem, ⟨8, _⟩ => ⟨S1x1376x704, .bf16⟩
  | .local _ .vmem, ⟨9, _⟩ => ⟨S1x1376x704, .bf16⟩
  | .local _ .vmem, ⟨10, _⟩ => ⟨S1x1376x704, .bf16⟩
  | .local _ .vmem, ⟨11, _⟩ => ⟨S1x1376x704, .bf16⟩
  | .local _ .vmem, ⟨12, _⟩ => ⟨S1376x1024, .bf16⟩
  | .local _ .vmem, ⟨13, _⟩ => ⟨S1376x1024, .bf16⟩
  | .local _ .vmem, ⟨14, _⟩ => ⟨S4x704x1024, .bf16⟩
  | .local _ .vmem, ⟨15, _⟩ => ⟨S1x1376x704, .bf16⟩
  | .local _ .vmem, ⟨16, _⟩ => ⟨S1x1376x704, .bf16⟩
  | .local _ .vmem, ⟨17, _⟩ => ⟨S1x1376x704, .bf16⟩
  | .local _ .vmem, ⟨18, _⟩ => ⟨S1x1376x704, .bf16⟩
  | .local _ .vmem, ⟨19, _⟩ => ⟨S1x1376x704, .bf16⟩
  | .local _ .vmem, ⟨20, _⟩ => ⟨S1x1376x704, .bf16⟩
  | .local _ .vmem, ⟨21, _⟩ => ⟨S1x1376x704, .bf16⟩
  | .local _ .vmem, ⟨22, _⟩ => ⟨S1x1376x704, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1376x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1376x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1376x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![6, 4], ![false, false]⟩

def k1_off1 (i : grid1.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1376x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1376x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1376x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1376x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1376x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S8256x1024 : Shape := ⟨2, ![8256, 1024]⟩
abbrev S1024x2816 : Shape := ⟨2, ![1024, 2816]⟩
abbrev S2816x1024 : Shape := ⟨2, ![2816, 1024]⟩
abbrev S8256x2816 : Shape := ⟨2, ![8256, 2816]⟩
abbrev S_ : Shape := ⟨0, ![]⟩
abbrev S8256x4x704 : Shape := ⟨3, ![8256, 4, 704]⟩
abbrev S4x8256x704 : Shape := ⟨3, ![4, 8256, 704]⟩

abbrev nBuf : Space → Nat
  | .hbm => 41
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8256x2816, .f32⟩
  | .hbm, ⟨6, _⟩ => ⟨S8256x2816, .f32⟩
  | .hbm, ⟨7, _⟩ => ⟨S8256x2816, .f32⟩
  | .hbm, ⟨8, _⟩ => ⟨S8256x2816, .f32⟩
  | .hbm, ⟨9, _⟩ => ⟨S_, .f32⟩
  | .hbm, ⟨10, _⟩ => ⟨S8256x2816, .f32⟩
  | .hbm, ⟨11, _⟩ => ⟨S8256x2816, .f32⟩
  | .hbm, ⟨12, _⟩ => ⟨S_, .f32⟩
  | .hbm, ⟨13, _⟩ => ⟨S8256x2816, .f32⟩
  | .hbm, ⟨14, _⟩ => ⟨S8256x2816, .f32⟩
  | .hbm, ⟨15, _⟩ => ⟨S_, .f32⟩
  | .hbm, ⟨16, _⟩ => ⟨S8256x2816, .f32⟩
  | .hbm, ⟨17, _⟩ => ⟨S8256x2816, .f32⟩
  | .hbm, ⟨18, _⟩ => ⟨S8256x2816, .f32⟩
  | .hbm, ⟨19, _⟩ => ⟨S8256x2816, .f32⟩
  | .hbm, ⟨20, _⟩ => ⟨S8256x2816, .f32⟩
  | .hbm, ⟨21, _⟩ => ⟨S8256x1024, .f32⟩
  | .hbm, ⟨22, _⟩ => ⟨S_, .f32⟩
  | .hbm, ⟨23, _⟩ => ⟨S8256x1024, .f32⟩
  | .hbm, ⟨24, _⟩ => ⟨S8256x1024, .f32⟩
  | .hbm, ⟨25, _⟩ => ⟨S_, .f32⟩
  | .hbm, ⟨26, _⟩ => ⟨S8256x1024, .f32⟩
  | .hbm, ⟨27, _⟩ => ⟨S8256x1024, .f32⟩
  | .hbm, ⟨28, _⟩ => ⟨S8256x2816, .f32⟩
  | .hbm, ⟨29, _⟩ => ⟨S8256x2816, .f32⟩
  | .hbm, ⟨30, _⟩ => ⟨S8256x2816, .f32⟩
  | .hbm, ⟨31, _⟩ => ⟨S8256x2816, .f32⟩
  | .hbm, ⟨32, _⟩ => ⟨S8256x2816, .f32⟩
  | .hbm, ⟨33, _⟩ => ⟨S8256x2816, .f32⟩
  | .hbm, ⟨34, _⟩ => ⟨S8256x2816, .f32⟩
  | .hbm, ⟨35, _⟩ => ⟨S8256x4x704, .f32⟩
  | .hbm, ⟨36, _⟩ => ⟨S4x8256x704, .f32⟩
  | .hbm, ⟨37, _⟩ => ⟨S4x8256x704, .bf16⟩
  | .hbm, ⟨38, _⟩ => ⟨S8256x4x704, .f32⟩
  | .hbm, ⟨39, _⟩ => ⟨S4x8256x704, .f32⟩
  | .hbm, ⟨40, _⟩ => ⟨S4x8256x704, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Kernel2.lean ====
abbrev S8256x1024 : Shape := ⟨2, ![8256, 1024]⟩
abbrev S4x8256x704 : Shape := ⟨3, ![4, 8256, 704]⟩
abbrev S4x704x1024 : Shape := ⟨3, ![4, 704, 1024]⟩
abbrev S1x4128x704 : Shape := ⟨3, ![1, 4128, 704]⟩
abbrev S4128x1024 : Shape := ⟨2, ![4128, 1024]⟩
abbrev S1x704x1024 : Shape := ⟨3, ![1, 704, 1024]⟩
abbrev S704x1024 : Shape := ⟨2, ![704, 1024]⟩
abbrev S4128x704 : Shape := ⟨2, ![4128, 704]⟩

abbrev nBuf : Space → Nat
  | .hbm => 4
  | .vmem => 7
  | .smem => 0
  | _ => 0

abbrev bufTy : (tb : Table) → Fin (tcTables nBuf tb) → BufTy
  | .hbm, ⟨0, _⟩ => ⟨S8256x1024, .f32⟩
  | .hbm, ⟨1, _⟩ => ⟨S4x8256x704, .bf16⟩
  | .hbm, ⟨2, _⟩ => ⟨S8256x1024, .bf16⟩
  | .hbm, ⟨3, _⟩ => ⟨S4x704x1024, .f32⟩
  | .local _ .vmem, ⟨0, _⟩ => ⟨S1x4128x704, .bf16⟩
  | .local _ .vmem, ⟨1, _⟩ => ⟨S1x4128x704, .bf16⟩
  | .local _ .vmem, ⟨2, _⟩ => ⟨S4128x1024, .bf16⟩
  | .local _ .vmem, ⟨3, _⟩ => ⟨S4128x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8256x1024 : Shape := ⟨2, ![8256, 1024]⟩
abbrev S4x8256x704 : Shape := ⟨3, ![4, 8256, 704]⟩
abbrev S_ : Shape := ⟨0, ![]⟩
abbrev S2816x1024 : Shape := ⟨2, ![2816, 1024]⟩
abbrev S8256x4x704 : Shape := ⟨3, ![8256, 4, 704]⟩
abbrev S8256x2816 : Shape := ⟨2, ![8256, 2816]⟩
abbrev S1024x2816 : Shape := ⟨2, ![1024, 2816]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S4x8256x704, .bf16⟩
  | .hbm, ⟨2, _⟩ => ⟨S_, .f32⟩
  | .hbm, ⟨3, _⟩ => ⟨S2816x1024, .f32⟩
  | .hbm, ⟨4, _⟩ => ⟨S4x8256x704, .f32⟩
  | .hbm, ⟨5, _⟩ => ⟨S8256x4x704, .f32⟩
  | .hbm, ⟨6, _⟩ => ⟨S8256x2816, .f32⟩
  | .hbm, ⟨7, _⟩ => ⟨S8256x1024, .f32⟩
  | .hbm, ⟨8, _⟩ => ⟨S_, .f32⟩
  | .hbm, ⟨9, _⟩ => ⟨S8256x1024, .f32⟩
  | .hbm, ⟨10, _⟩ => ⟨S8256x1024, .f32⟩
  | .hbm, ⟨11, _⟩ => ⟨S_, .f32⟩
  | .hbm, ⟨12, _⟩ => ⟨S8256x1024, .f32⟩
  | .hbm, ⟨13, _⟩ => ⟨S8256x1024, .f32⟩
  | .hbm, ⟨14, _⟩ => ⟨S1024x2816, .f32⟩
  | .hbm, ⟨15, _⟩ => ⟨S2816x1024, .f32⟩
  | .hbm, ⟨16, _⟩ => ⟨S4x704x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel3.lean ====
abbrev S4x8256x704 : Shape := ⟨3, ![4, 8256, 704]⟩
abbrev S8256x1024 : Shape := ⟨2, ![8256, 1024]⟩
abbrev S4x704x1024 : Shape := ⟨3, ![4, 704, 1024]⟩
abbrev S1x4128x704 : Shape := ⟨3, ![1, 4128, 704]⟩
abbrev S4128x1024 : Shape := ⟨2, ![4128, 1024]⟩
abbrev S1x704x1024 : Shape := ⟨3, ![1, 704, 1024]⟩
abbrev S704x1024 : Shape := ⟨2, ![704, 1024]⟩
abbrev S4128x704 : Shape := ⟨2, ![4128, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x8256x704, .bf16⟩
  | .hbm, ⟨1, _⟩ => ⟨S8256x1024, .f32⟩
  | .hbm, ⟨2, _⟩ => ⟨S8256x1024, .bf16⟩
  | .hbm, ⟨3, _⟩ => ⟨S4x704x1024, .f32⟩
  | .local _ .vmem, ⟨0, _⟩ => ⟨S1x4128x704, .bf16⟩
  | .local _ .vmem, ⟨1, _⟩ => ⟨S1x4128x704, .bf16⟩
  | .local _ .vmem, ⟨2, _⟩ => ⟨S4128x1024, .bf16⟩
  | .local _ .vmem, ⟨3, _⟩ => ⟨S4128x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S4x8256x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x8256x704 : Shape := ⟨3, ![4, 8256, 704]⟩
abbrev S8256x1024 : Shape := ⟨2, ![8256, 1024]⟩
abbrev S_ : Shape := ⟨0, ![]⟩
abbrev S1024x2816 : Shape := ⟨2, ![1024, 2816]⟩
abbrev S8256x2816 : Shape := ⟨2, ![8256, 2816]⟩
abbrev S8256x4x704 : Shape := ⟨3, ![8256, 4, 704]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8256x704, .bf16⟩
  | .hbm, ⟨1, _⟩ => ⟨S8256x1024, .f32⟩
  | .hbm, ⟨2, _⟩ => ⟨S_, .f32⟩
  | .hbm, ⟨3, _⟩ => ⟨S1024x2816, .f32⟩
  | .hbm, ⟨4, _⟩ => ⟨S8256x2816, .f32⟩
  | .hbm, ⟨5, _⟩ => ⟨S4x8256x704, .f32⟩
  | .hbm, ⟨6, _⟩ => ⟨S8256x4x704, .f32⟩
  | .hbm, ⟨7, _⟩ => ⟨S8256x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | _, _ => ⟨S4x8256x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8256x1024 : Shape := ⟨2, ![8256, 1024]⟩
abbrev S1024x1024 : Shape := ⟨2, ![1024, 1024]⟩
abbrev S8256x2048 : Shape := ⟨2, ![8256, 2048]⟩
abbrev S4x256x1024 : Shape := ⟨3, ![4, 256, 1024]⟩
abbrev S688x1024 : Shape := ⟨2, ![688, 1024]⟩
abbrev S2x256x1024 : Shape := ⟨3, ![2, 256, 1024]⟩
abbrev S688x512 : Shape := ⟨2, ![688, 512]⟩
abbrev S1x256x1024 : Shape := ⟨3, ![1, 256, 1024]⟩
abbrev S256x1024 : Shape := ⟨2, ![256, 1024]⟩
abbrev S688x256 : Shape := ⟨2, ![688, 256]⟩

abbrev nBuf : Space → Nat
  | .hbm => 14
  | .vmem => 24
  | .smem => 0
  | _ => 0

abbrev bufTy : (tb : Table) → Fin (tcTables nBuf tb) → BufTy
  | .hbm, ⟨0, _⟩ => ⟨S8256x1024, .f32⟩
  | .hbm, ⟨1, _⟩ => ⟨S1024x1024, .f32⟩
  | .hbm, ⟨2, _⟩ => ⟨S8256x2048, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .bf16⟩
  | .hbm, ⟨7, _⟩ => ⟨S1024x1024, .bf16⟩
  | .hbm, ⟨8, _⟩ => ⟨S4x256x1024, .bf16⟩
  | .hbm, ⟨9, _⟩ => ⟨S8256x1024, .f32⟩
  | .hbm, ⟨10, _⟩ => ⟨S8256x1024, .bf16⟩
  | .hbm, ⟨11, _⟩ => ⟨S8256x1024, .bf16⟩
  | .hbm, ⟨12, _⟩ => ⟨S8256x1024, .bf16⟩
  | .hbm, ⟨13, _⟩ => ⟨S8256x1024, .bf16⟩
  | .local _ .vmem, ⟨0, _⟩ => ⟨S688x1024, .bf16⟩
  | .local _ .vmem, ⟨1, _⟩ => ⟨S688x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S688x512, .f32⟩
  | .local _ .vmem, ⟨9, _⟩ => ⟨S688x512, .f32⟩
  | .local _ .vmem, ⟨10, _⟩ => ⟨S688x512, .f32⟩
  | .local _ .vmem, ⟨11, _⟩ => ⟨S688x512, .f32⟩
  | .local _ .vmem, ⟨12, _⟩ => ⟨S688x512, .f32⟩
  | .local _ .vmem, ⟨13, _⟩ => ⟨S688x512, .f32⟩
  | .local _ .vmem, ⟨14, _⟩ => ⟨S688x512, .f32⟩
  | .local _ .vmem, ⟨15, _⟩ => ⟨S688x512, .f32⟩
  | .local _ .vmem, ⟨16, _⟩ => ⟨S688x512, .bf16⟩
  | .local _ .vmem, ⟨17, _⟩ => ⟨S688x512, .bf16⟩
  | .local _ .vmem, ⟨18, _⟩ => ⟨S688x512, .bf16⟩
  | .local _ .vmem, ⟨19, _⟩ => ⟨S688x512, .bf16⟩
  | .local _ .vmem, ⟨20, _⟩ => ⟨S688x512, .bf16⟩
  | .local _ .vmem, ⟨21, _⟩ => ⟨S688x512, .bf16⟩
  | .local _ .vmem, ⟨22, _⟩ => ⟨S688x512, .bf16⟩
  | .local _ .vmem, ⟨23, _⟩ => ⟨S688x512, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S688x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S688x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S688x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8256x1024 : Shape := ⟨2, ![8256, 1024]⟩
abbrev S1024x1024 : Shape := ⟨2, ![1024, 1024]⟩
abbrev S8256x2048 : Shape := ⟨2, ![8256, 2048]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x1024, .f32⟩
  | .hbm, ⟨2, _⟩ => ⟨S8256x2048, .f32⟩
  | .hbm, ⟨3, _⟩ => ⟨S8256x1024, .f32⟩
  | .hbm, ⟨4, _⟩ => ⟨S8256x1024, .f32⟩
  | .hbm, ⟨5, _⟩ => ⟨S8256x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S_, .f32⟩
  | .hbm, ⟨11, _⟩ => ⟨S8256x1024, .f32⟩
  | .hbm, ⟨12, _⟩ => ⟨S8256x1024, .f32⟩
  | .hbm, ⟨13, _⟩ => ⟨S_, .f32⟩
  | .hbm, ⟨14, _⟩ => ⟨S8256x1024, .f32⟩
  | .hbm, ⟨15, _⟩ => ⟨S8256x1024, .f32⟩
  | .hbm, ⟨16, _⟩ => ⟨S_, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S_, .f32⟩
  | .hbm, ⟨24, _⟩ => ⟨S8256x1024, .f32⟩
  | .hbm, ⟨25, _⟩ => ⟨S8256x1024, .f32⟩
  | .hbm, ⟨26, _⟩ => ⟨S_, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1024, .f32⟩
  | .hbm, ⟨31, _⟩ => ⟨S8256x1024, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S_, .f32⟩
  | .hbm, ⟨37, _⟩ => ⟨S8256x1024, .f32⟩
  | .hbm, ⟨38, _⟩ => ⟨S8256x1024, .f32⟩
  | .hbm, ⟨39, _⟩ => ⟨S_, .f32⟩
  | .hbm, ⟨40, _⟩ => ⟨S8256x1024, .f32⟩
  | .hbm, ⟨41, _⟩ => ⟨S8256x1024, .f32⟩
  | .hbm, ⟨42, _⟩ => ⟨S_, .f32⟩
  | .hbm, ⟨43, _⟩ => ⟨S8256x1024, .f32⟩
  | .hbm, ⟨44, _⟩ => ⟨S8256x1024, .f32⟩
  | .hbm, ⟨45, _⟩ => ⟨S8256x1024, .f32⟩
  | .hbm, ⟨46, _⟩ => ⟨S8256x1024, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S8256x1024, .f32⟩
  | .hbm, ⟨56, _⟩ => ⟨S8256x1024, .f32⟩
  | .hbm, ⟨57, _⟩ => ⟨S8256x1024, .f32⟩
  | .hbm, ⟨58, _⟩ => ⟨S8256x1024, .f32⟩
  | .hbm, ⟨59, _⟩ => ⟨S8256x1024, .bf16⟩
  | .hbm, ⟨60, _⟩ => ⟨S8256x1024, .bf16⟩
  | .hbm, ⟨61, _⟩ => ⟨S8256x1024, .bf16⟩
  | .hbm, ⟨62, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S8256x1024 : Shape := ⟨2, ![8256, 1024]⟩
abbrev S1024x1024 : Shape := ⟨2, ![1024, 1024]⟩
abbrev S4128x1024 : Shape := ⟨2, ![4128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8256x1024, .f32⟩
  | .hbm, ⟨1, _⟩ => ⟨S8256x1024, .bf16⟩
  | .hbm, ⟨2, _⟩ => ⟨S8256x1024, .bf16⟩
  | .hbm, ⟨3, _⟩ => ⟨S1024x1024, .f32⟩
  | .local _ .vmem, ⟨0, _⟩ => ⟨S4128x1024, .bf16⟩
  | .local _ .vmem, ⟨1, _⟩ => ⟨S4128x1024, .bf16⟩
  | .local _ .vmem, ⟨2, _⟩ => ⟨S4128x1024, .bf16⟩
  | .local _ .vmem, ⟨3, _⟩ => ⟨S4128x1024, .bf16⟩
  | .local _ .vmem, ⟨4, _⟩ => ⟨S1024x1024, .f32⟩
  | .local _ .vmem, ⟨5, _⟩ => ⟨S1024x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .bf16⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8256x1024 : Shape := ⟨2, ![8256, 1024]⟩
abbrev S4x256x1024 : Shape := ⟨3, ![4, 256, 1024]⟩
abbrev S4128x256 : Shape := ⟨2, ![4128, 256]⟩
abbrev S4128x1024 : Shape := ⟨2, ![4128, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S8256x1024, .bf16⟩
  | .hbm, ⟨3, _⟩ => ⟨S4x256x1024, .f32⟩
  | .local _ .vmem, ⟨0, _⟩ => ⟨S4128x256, .bf16⟩
  | .local _ .vmem, ⟨1, _⟩ => ⟨S4128x256, .bf16⟩
  | .local _ .vmem, ⟨2, _⟩ => ⟨S4128x1024, .bf16⟩
  | .local _ .vmem, ⟨3, _⟩ => ⟨S4128x1024, .bf16⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8256x1024 : Shape := ⟨2, ![8256, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .f32⟩
  | .hbm, ⟨2, _⟩ => ⟨S_, .f32⟩
  | .hbm, ⟨3, _⟩ => ⟨S1024x1024, .f32⟩
  | .hbm, ⟨4, _⟩ => ⟨S8256x1024, .f32⟩
  | .hbm, ⟨5, _⟩ => ⟨S8256x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8256x512 : Shape := ⟨2, ![8256, 512]⟩
abbrev S8256x1024 : Shape := ⟨2, ![8256, 1024]⟩
abbrev S4x512x256 : Shape := ⟨3, ![4, 512, 256]⟩
abbrev S4128x512 : Shape := ⟨2, ![4128, 512]⟩
abbrev S4128x256 : Shape := ⟨2, ![4128, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8256x512, .bf16⟩
  | .hbm, ⟨1, _⟩ => ⟨S8256x1024, .bf16⟩
  | .hbm, ⟨2, _⟩ => ⟨S4x512x256, .f32⟩
  | .local _ .vmem, ⟨0, _⟩ => ⟨S4128x512, .bf16⟩
  | .local _ .vmem, ⟨1, _⟩ => ⟨S4128x512, .bf16⟩
  | .local _ .vmem, ⟨2, _⟩ => ⟨S4128x256, .bf16⟩
  | .local _ .vmem, ⟨3, _⟩ => ⟨S4128x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8256x512 : Shape := ⟨2, ![8256, 512]⟩
abbrev S8256x1024 : Shape := ⟨2, ![8256, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8256x512, .bf16⟩
  | .hbm, ⟨1, _⟩ => ⟨S8256x1024, .bf16⟩
  | .hbm, ⟨2, _⟩ => ⟨S_, .f32⟩
  | .hbm, ⟨3, _⟩ => ⟨S512x1024, .f32⟩
  | .hbm, ⟨4, _⟩ => ⟨S8256x512, .f32⟩
  | .hbm, ⟨5, _⟩ => ⟨S8256x1024, .f32⟩
  | .hbm, ⟨6, _⟩ => ⟨S8256x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S8256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4x8256x704 : Shape := ⟨3, ![4, 8256, 704]⟩
abbrev S2816x1024 : Shape := ⟨2, ![2816, 1024]⟩
abbrev S8256x1024 : Shape := ⟨2, ![8256, 1024]⟩
abbrev S4x704x1024 : Shape := ⟨3, ![4, 704, 1024]⟩
abbrev S4x688x704 : Shape := ⟨3, ![4, 688, 704]⟩
abbrev S688x1024 : Shape := ⟨2, ![688, 1024]⟩
abbrev S1x688x704 : Shape := ⟨3, ![1, 688, 704]⟩
abbrev S688x704 : Shape := ⟨2, ![688, 704]⟩
abbrev S1x704x1024 : Shape := ⟨3, ![1, 704, 1024]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x8256x704, .bf16⟩
  | .hbm, ⟨1, _⟩ => ⟨S2816x1024, .f32⟩
  | .hbm, ⟨2, _⟩ => ⟨S8256x1024, .f32⟩
  | .hbm, ⟨3, _⟩ => ⟨S2816x1024, .bf16⟩
  | .hbm, ⟨4, _⟩ => ⟨S4x704x1024, .bf16⟩
  | .hbm, ⟨5, _⟩ => ⟨S8256x1024, .f32⟩
  | .local _ .vmem, ⟨0, _⟩ => ⟨S4x688x704, .bf16⟩
  | .local _ .vmem, ⟨1, _⟩ => ⟨S4x688x704, .bf16⟩
  | .local _ .vmem, ⟨2, _⟩ => ⟨S4x704x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S4x8256x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4x8256x704 : Shape := ⟨3, ![4, 8256, 704]⟩
abbrev S2816x1024 : Shape := ⟨2, ![2816, 1024]⟩
abbrev S8256x1024 : Shape := ⟨2, ![8256, 1024]⟩
abbrev S8256x4x704 : Shape := ⟨3, ![8256, 4, 704]⟩
abbrev S8256x2816 : Shape := ⟨2, ![8256, 2816]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x8256x704, .bf16⟩
  | .hbm, ⟨1, _⟩ => ⟨S2816x1024, .f32⟩
  | .hbm, ⟨2, _⟩ => ⟨S8256x1024, .f32⟩
  | .hbm, ⟨3, _⟩ => ⟨S4x8256x704, .f32⟩
  | .hbm, ⟨4, _⟩ => ⟨S8256x4x704, .f32⟩
  | .hbm, ⟨5, _⟩ => ⟨S8256x2816, .f32⟩
  | .hbm, ⟨6, _⟩ => ⟨S8256x1024, .f32⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S8256x1024, .f32⟩
  | _, _ => ⟨S4x8256x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8256x1024 : Shape := ⟨2, ![8256, 1024]⟩
abbrev S4x1024x1024 : Shape := ⟨3, ![4, 1024, 1024]⟩
abbrev S1376x1024 : Shape := ⟨2, ![1376, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S4x1024x1024, .f32⟩
  | .hbm, ⟨2, _⟩ => ⟨S8256x1024, .bf16⟩
  | .hbm, ⟨3, _⟩ => ⟨S4x1024x1024, .bf16⟩
  | .hbm, ⟨4, _⟩ => ⟨S8256x1024, .bf16⟩
  | .local _ .vmem, ⟨0, _⟩ => ⟨S1376x1024, .bf16⟩
  | .local _ .vmem, ⟨1, _⟩ => ⟨S1376x1024, .bf16⟩
  | .local _ .vmem, ⟨2, _⟩ => ⟨S1x1024x1024, .bf16⟩
  | .local _ .vmem, ⟨3, _⟩ => ⟨S1376x1024, .bf16⟩
  | .local _ .vmem, ⟨4, _⟩ => ⟨S1376x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1376x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8256x1024 : Shape := ⟨2, ![8256, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S4x1024x1024, .f32⟩
  | .hbm, ⟨2, _⟩ => ⟨S1x1024x1024, .f32⟩
  | .hbm, ⟨3, _⟩ => ⟨S1024x1024, .f32⟩
  | .hbm, ⟨4, _⟩ => ⟨S8256x1024, .f32⟩
  | .hbm, ⟨5, _⟩ => ⟨S_, .f32⟩
  | .hbm, ⟨6, _⟩ => ⟨S8256x1024, .f32⟩
  | .hbm, ⟨7, _⟩ => ⟨S8256x1024, .f32⟩
  | .hbm, ⟨8, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8256x1024 : Shape := ⟨2, ![8256, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8256x2048 : Shape := ⟨2, ![8256, 2048]⟩
abbrev S1376x1024 : Shape := ⟨2, ![1376, 1024]⟩
abbrev S2x1024x1024 : Shape := ⟨3, ![2, 1024, 1024]⟩
abbrev S1376x2048 : Shape := ⟨2, ![1376, 2048]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S1024x4096, .f32⟩
  | .hbm, ⟨2, _⟩ => ⟨S8256x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S8256x2048, .f32⟩
  | .local _ .vmem, ⟨0, _⟩ => ⟨S1376x1024, .bf16⟩
  | .local _ .vmem, ⟨1, _⟩ => ⟨S1376x1024, .bf16⟩
  | .local _ .vmem, ⟨2, _⟩ => ⟨S2x1024x1024, .bf16⟩
  | .local _ .vmem, ⟨3, _⟩ => ⟨S1376x2048, .f32⟩
  | .local _ .vmem, ⟨4, _⟩ => ⟨S1376x2048, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1376x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8256x1024 : Shape := ⟨2, ![8256, 1024]⟩
abbrev S1024x4096 : Shape := ⟨2, ![1024, 4096]⟩
abbrev S8256x4096 : Shape := ⟨2, ![8256, 4096]⟩
abbrev S8256x2048 : Shape := ⟨2, ![8256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x4096, .f32⟩
  | .hbm, ⟨2, _⟩ => ⟨S8256x4096, .f32⟩
  | .hbm, ⟨3, _⟩ => ⟨S8256x2048, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8256x1024 : Shape := ⟨2, ![8256, 1024]⟩
abbrev S1024x1024 : Shape := ⟨2, ![1024, 1024]⟩
abbrev S1376x1024 : Shape := ⟨2, ![1376, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8256x1024, .f32⟩
  | .hbm, ⟨1, _⟩ => ⟨S1024x1024, .f32⟩
  | .hbm, ⟨2, _⟩ => ⟨S8256x1024, .bf16⟩
  | .hbm, ⟨3, _⟩ => ⟨S1024x1024, .bf16⟩
  | .hbm, ⟨4, _⟩ => ⟨S8256x1024, .f32⟩
  | .local _ .vmem, ⟨0, _⟩ => ⟨S1376x1024, .bf16⟩
  | .local _ .vmem, ⟨1, _⟩ => ⟨S1376x1024, .bf16⟩
  | .local _ .vmem, ⟨2, _⟩ => ⟨S1024x1024, .bf16⟩
  | .local _ .vmem, ⟨3, _⟩ => ⟨S1376x1024, .f32⟩
  | .local _ .vmem, ⟨4, _⟩ => ⟨S1376x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8256x1024 : Shape := ⟨2, ![8256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1024x1024, .f32⟩
  | .hbm, ⟨2, _⟩ => ⟨S8256x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8256x512 : Shape := ⟨2, ![8256, 512]⟩
abbrev S512x1024 : Shape := ⟨2, ![512, 1024]⟩
abbrev S512x4x256 : Shape := ⟨3, ![512, 4, 256]⟩
abbrev S4x512x256 : Shape := ⟨3, ![4, 512, 256]⟩
abbrev S8256x1024 : Shape := ⟨2, ![8256, 1024]⟩
abbrev S1376x512 : Shape := ⟨2, ![1376, 512]⟩
abbrev S1376x1024 : Shape := ⟨2, ![1376, 1024]⟩
abbrev S1x512x256 : Shape := ⟨3, ![1, 512, 256]⟩
abbrev S512x256 : Shape := ⟨2, ![512, 256]⟩
abbrev S1376x256 : Shape := ⟨2, ![1376, 256]⟩

abbrev nBuf : Space → Nat
  | .hbm => 6
  | .vmem => 5
  | .smem => 0
  | _ => 0

abbrev bufTy : (tb : Table) → Fin (tcTables nBuf tb) → BufTy
  | .hbm, ⟨0, _⟩ => ⟨S8256x512, .bf16⟩
  | .hbm, ⟨1, _⟩ => ⟨S512x1024, .f32⟩
  | .hbm, ⟨2, _⟩ => ⟨S512x4x256, .f32⟩
  | .hbm, ⟨3, _⟩ => ⟨S4x512x256, .f32⟩
  | .hbm, ⟨4, _⟩ => ⟨S4x512x256, .bf16⟩
  | .hbm, ⟨5, _⟩ => ⟨S8256x1024, .f32⟩
  | .local _ .vmem, ⟨0, _⟩ => ⟨S1376x512, .bf16⟩
  | .local _ .vmem, ⟨1, _⟩ => ⟨S1376x512, .bf16⟩
  | .local _ .vmem, ⟨2, _⟩ => ⟨S4x512x256, .bf16⟩
  | .local _ .vmem, ⟨3, _⟩ => ⟨S1376x1024, .f32⟩
  | .local _ .vmem, ⟨4, _⟩ => ⟨S1376x1024, .f32⟩
  | _, _ => ⟨S8256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1376x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8256x512 : Shape := ⟨2, ![8256, 512]⟩
abbrev S512x1024 : Shape := ⟨2, ![512, 1024]⟩
abbrev S8256x1024 : Shape := ⟨2, ![8256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8256x512, .bf16⟩
  | .hbm, ⟨1, _⟩ => ⟨S512x1024, .f32⟩
  | .hbm, ⟨2, _⟩ => ⟨S8256x512, .f32⟩
  | .hbm, ⟨3, _⟩ => ⟨S8256x1024, .f32⟩
  | _, _ => ⟨S8256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S8256x1024 : Shape := ⟨2, ![8256, 1024]⟩
abbrev S1024x1024 : Shape := ⟨2, ![1024, 1024]⟩
abbrev S4x256x1024 : Shape := ⟨3, ![4, 256, 1024]⟩
abbrev S1376x1024 : Shape := ⟨2, ![1376, 1024]⟩
abbrev S1376x256 : Shape := ⟨2, ![1376, 256]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S8256x1024, .f32⟩
  | .hbm, ⟨3, _⟩ => ⟨S1024x1024, .bf16⟩
  | .hbm, ⟨4, _⟩ => ⟨S4x256x1024, .bf16⟩
  | .hbm, ⟨5, _⟩ => ⟨S8256x1024, .f32⟩
  | .local _ .vmem, ⟨0, _⟩ => ⟨S1376x1024, .bf16⟩
  | .local _ .vmem, ⟨1, _⟩ => ⟨S1376x1024, .bf16⟩
  | .local _ .vmem, ⟨2, _⟩ => ⟨S4x256x1024, .bf16⟩
  | .local _ .vmem, ⟨3, _⟩ => ⟨S1376x1024, .f32⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1376x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1376x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8256x1024 : Shape := ⟨2, ![8256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .f32⟩
  | .hbm, ⟨2, _⟩ => ⟨S8256x1024, .f32⟩
  | .hbm, ⟨3, _⟩ => ⟨S8256x1024, .f32⟩
  | .hbm, ⟨4, _⟩ => ⟨S8256x1024, .f32⟩
  | .hbm, ⟨5, _⟩ => ⟨S8256x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8256x1024 : Shape := ⟨2, ![8256, 1024]⟩
abbrev S1024x4096 : Shape := ⟨2, ![1024, 4096]⟩
abbrev S1024 : Shape := ⟨1, ![1024]⟩
abbrev S1024x1024 : Shape := ⟨2, ![1024, 1024]⟩
abbrev S1x1024 : Shape := ⟨2, ![1, 1024]⟩
abbrev S688x1024 : Shape := ⟨2, ![688, 1024]⟩
abbrev S8x1024 : Shape := ⟨2, ![8, 1024]⟩
abbrev S688 : Shape := ⟨1, ![688]⟩
abbrev S688x1 : Shape := ⟨2, ![688, 1]⟩
abbrev S86x8x1024 : Shape := ⟨3, ![86, 8, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x1024, .bf16⟩
  | .hbm, ⟨3, _⟩ => ⟨S8256x1024, .bf16⟩
  | .hbm, ⟨4, _⟩ => ⟨S1024x4096, .f32⟩
  | .hbm, ⟨5, _⟩ => ⟨S8256x1024, .f32⟩
  | .hbm, ⟨6, _⟩ => ⟨S1024, .f32⟩
  | .hbm, ⟨7, _⟩ => ⟨S8256x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S8256x1024, .f32⟩
  | .hbm, ⟨18, _⟩ => ⟨S8256x1024, .bf16⟩
  | .hbm, ⟨19, _⟩ => ⟨S1x1024, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .bf16⟩
  | .local _ .vmem, ⟨4, _⟩ => ⟨S688x1024, .bf16⟩
  | .local _ .vmem, ⟨5, _⟩ => ⟨S1024x1024, .bf16⟩
  | .local _ .vmem, ⟨6, _⟩ => ⟨S688x1024, .bf16⟩
  | .local _ .vmem, ⟨7, _⟩ => ⟨S688x1024, .bf16⟩
  | .local _ .vmem, ⟨8, _⟩ => ⟨S1024x1024, .bf16⟩
  | .local _ .vmem, ⟨9, _⟩ => ⟨S688x1024, .bf16⟩
  | .local _ .vmem, ⟨10, _⟩ => ⟨S688x1024, .bf16⟩
  | .local _ .vmem, ⟨11, _⟩ => ⟨S1024x1024, .bf16⟩
  | .local _ .vmem, ⟨12, _⟩ => ⟨S688x1024, .f32⟩
  | .local _ .vmem, ⟨13, _⟩ => ⟨S688x1024, .f32⟩
  | .local _ .vmem, ⟨14, _⟩ => ⟨S1x1024, .f32⟩
  | .local _ .vmem, ⟨15, _⟩ => ⟨S688x1024, .f32⟩
  | .local _ .vmem, ⟨16, _⟩ => ⟨S688x1024, .f32⟩
  | .local _ .vmem, ⟨17, _⟩ => ⟨S688x1024, .f32⟩
  | .local _ .vmem, ⟨18, _⟩ => ⟨S688x1024, .f32⟩
  | .local _ .vmem, ⟨19, _⟩ => ⟨S688x1024, .bf16⟩
  | .local _ .vmem, ⟨20, _⟩ => ⟨S688x1024, .bf16⟩
  | .local _ .vmem, ⟨21, _⟩ => ⟨S1x1024, .f32⟩
  | .local _ .vmem, ⟨22, _⟩ => ⟨S8x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v58 : BitVec 1 := Scalar.cmpi .eq arg0 c11_i32
  let v59 : BitVec 32 := Scalar.extui v58
  let c0_i32_37 : BitVec 32 := 0#32
  let v60 : BitVec 1 := Scalar.cmpi .ne v59 c0_i32_37
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference14Ideal.lean ====
abbrev S8256x1024 : Shape := ⟨2, ![8256, 1024]⟩
abbrev S1024x4096 : Shape := ⟨2, ![1024, 4096]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x4096 : Shape := ⟨2, ![8256, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S8256x1024, .bf16⟩
  | .hbm, ⟨3, _⟩ => ⟨S8256x1024, .bf16⟩
  | .hbm, ⟨4, _⟩ => ⟨S1024x4096, .f32⟩
  | .hbm, ⟨5, _⟩ => ⟨S8256x1024, .f32⟩
  | .hbm, ⟨6, _⟩ => ⟨S1024, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1, .f32⟩
  | .hbm, ⟨20, _⟩ => ⟨S_, .f32⟩
  | .hbm, ⟨21, _⟩ => ⟨S8256x1, .f32⟩
  | .hbm, ⟨22, _⟩ => ⟨S8256x1, .f32⟩
  | .hbm, ⟨23, _⟩ => ⟨S8256x1024, .f32⟩
  | .hbm, ⟨24, _⟩ => ⟨S8256x1024, .f32⟩
  | .hbm, ⟨25, _⟩ => ⟨S1x1024, .f32⟩
  | .hbm, ⟨26, _⟩ => ⟨S8256x1024, .f32⟩
  | .hbm, ⟨27, _⟩ => ⟨S8256x1024, .f32⟩
  | .hbm, ⟨28, _⟩ => ⟨S8256x4096, .f32⟩
  | .hbm, ⟨29, _⟩ => ⟨S8256x4096, .bf16⟩
  | .hbm, ⟨30, _⟩ => ⟨S8256x4096, .f32⟩
  | .hbm, ⟨31, _⟩ => ⟨S8256x1024, .f32⟩
  | .hbm, ⟨32, _⟩ => ⟨S8256x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8256x1024, .f32⟩
  | .hbm, ⟨37, _⟩ => ⟨S8256x1024, .f32⟩
  | .hbm, ⟨38, _⟩ => ⟨S_, .f32⟩
  | .hbm, ⟨39, _⟩ => ⟨S1024, .f32⟩
  | .hbm, ⟨40, _⟩ => ⟨S8256x1024, .f32⟩
  | .hbm, ⟨41, _⟩ => ⟨S_, .f32⟩
  | .hbm, ⟨42, _⟩ => ⟨S8256, .f32⟩
  | .hbm, ⟨43, _⟩ => ⟨S8256x1, .f32⟩
  | .hbm, ⟨44, _⟩ => ⟨S8256x1024, .f32⟩
  | .hbm, ⟨45, _⟩ => ⟨S8256x1024, .f32⟩
  | .hbm, ⟨46, _⟩ => ⟨S8256x1, .f32⟩
  | .hbm, ⟨47, _⟩ => ⟨S_, .f32⟩
  | .hbm, ⟨48, _⟩ => ⟨S8256x1, .f32⟩
  | .hbm, ⟨49, _⟩ => ⟨S8256x1, .f32⟩
  | .hbm, ⟨50, _⟩ => ⟨S_, .f32⟩
  | .hbm, ⟨51, _⟩ => ⟨S8256, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S8256x1024, .f32⟩
  | .hbm, ⟨56, _⟩ => ⟨S8256x1024, .f32⟩
  | .hbm, ⟨57, _⟩ => ⟨S8256x1024, .f32⟩
  | .hbm, ⟨58, _⟩ => ⟨S8256x1024, .f32⟩
  | .hbm, ⟨59, _⟩ => ⟨S8256x1024, .bf16⟩
  | .hbm, ⟨60, _⟩ => ⟨S1x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel15.lean ====
abbrev S4x8256x704 : Shape := ⟨3, ![4, 8256, 704]⟩
abbrev S1024x2816 : Shape := ⟨2, ![1024, 2816]⟩
abbrev S8256x1024 : Shape := ⟨2, ![8256, 1024]⟩
abbrev S1024 : Shape := ⟨1, ![1024]⟩
abbrev S2816x1024 : Shape := ⟨2, ![2816, 1024]⟩
abbrev S4x704x1024 : Shape := ⟨3, ![4, 704, 1024]⟩
abbrev S1x1024 : Shape := ⟨2, ![1, 1024]⟩
abbrev S4x688x704 : Shape := ⟨3, ![4, 688, 704]⟩
abbrev S688x1024 : Shape := ⟨2, ![688, 1024]⟩
abbrev S8x1024 : Shape := ⟨2, ![8, 1024]⟩
abbrev S688 : Shape := ⟨1, ![688]⟩
abbrev S688x1 : Shape := ⟨2, ![688, 1]⟩
abbrev S1x688x704 : Shape := ⟨3, ![1, 688, 704]⟩
abbrev S688x704 : Shape := ⟨2, ![688, 704]⟩
abbrev S1x704x1024 : Shape := ⟨3, ![1, 704, 1024]⟩
abbrev S704x1024 : Shape := ⟨2, ![704, 1024]⟩
abbrev S86x8x1024 : Shape := ⟨3, ![86, 8, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4x8256x704, .bf16⟩
  | .hbm, ⟨1, _⟩ => ⟨S4x8256x704, .bf16⟩
  | .hbm, ⟨2, _⟩ => ⟨S1024x2816, .f32⟩
  | .hbm, ⟨3, _⟩ => ⟨S1024x2816, .f32⟩
  | .hbm, ⟨4, _⟩ => ⟨S8256x1024, .f32⟩
  | .hbm, ⟨5, _⟩ => ⟨S1024, .f32⟩
  | .hbm, ⟨6, _⟩ => ⟨S8256x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .f32⟩
  | .hbm, ⟨11, _⟩ => ⟨S2816x1024, .bf16⟩
  | .hbm, ⟨12, _⟩ => ⟨S4x704x1024, .bf16⟩
  | .hbm, ⟨13, _⟩ => ⟨S1x1024, .f32⟩
  | .hbm, ⟨14, _⟩ => ⟨S8256x1024, .f32⟩
  | .hbm, ⟨15, _⟩ => ⟨S8256x1024, .bf16⟩
  | .hbm, ⟨16, _⟩ => ⟨S1x1024, .f32⟩
  | .local _ .vmem, ⟨0, _⟩ => ⟨S4x688x704, .bf16⟩
  | .local _ .vmem, ⟨1, _⟩ => ⟨S4x688x704, .bf16⟩
  | .local _ .vmem, ⟨2, _⟩ => ⟨S4x704x1024, .bf16⟩
  | .local _ .vmem, ⟨3, _⟩ => ⟨S4x688x704, .bf16⟩
  | .local _ .vmem, ⟨4, _⟩ => ⟨S4x688x704, .bf16⟩
  | .local _ .vmem, ⟨5, _⟩ => ⟨S4x704x1024, .bf16⟩
  | .local _ .vmem, ⟨6, _⟩ => ⟨S688x1024, .f32⟩
  | .local _ .vmem, ⟨7, _⟩ => ⟨S688x1024, .f32⟩
  | .local _ .vmem, ⟨8, _⟩ => ⟨S1x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .bf16⟩
  | .local _ .vmem, ⟨14, _⟩ => ⟨S688x1024, .bf16⟩
  | .local _ .vmem, ⟨15, _⟩ => ⟨S1x1024, .f32⟩
  | .local _ .vmem, ⟨16, _⟩ => ⟨S8x1024, .f32⟩
  | _, _ => ⟨S4x8256x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v86 : BitVec 1 := Scalar.cmpi .eq arg0 c11_i32
  let v87 : BitVec 32 := Scalar.extui v86
  let c0_i32_70 : BitVec 32 := 0#32
  let v88 : BitVec 1 := Scalar.cmpi .ne v87 c0_i32_70
  v88

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x688x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x688x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference15Ideal.lean ====
abbrev S4x8256x704 : Shape := ⟨3, ![4, 8256, 704]⟩
abbrev S1024x2816 : Shape := ⟨2, ![1024, 2816]⟩
abbrev S8256x1024 : Shape := ⟨2, ![8256, 1024]⟩
abbrev S1024 : Shape := ⟨1, ![1024]⟩
abbrev S_ : Shape := ⟨0, ![]⟩
abbrev S8256 : Shape := ⟨1, ![8256]⟩
abbrev S8256x1 : Shape := ⟨2, ![8256, 1]⟩
abbrev S1x1024 : Shape := ⟨2, ![1, 1024]⟩
abbrev S8256x2816 : Shape := ⟨2, ![8256, 2816]⟩
abbrev S8256x4x704 : Shape := ⟨3, ![8256, 4, 704]⟩

abbrev nBuf : Space → Nat
  | .hbm => 67
  | .vmem => 0
  | .smem => 0
  | _ => 0

abbrev bufTy : (tb : Table) → Fin (tcTables nBuf tb) → BufTy
  | .hbm, ⟨0, _⟩ => ⟨S4x8256x704, .bf16⟩
  | .hbm, ⟨1, _⟩ => ⟨S4x8256x704, .bf16⟩
  | .hbm, ⟨2, _⟩ => ⟨S1024x2816, .f32⟩
  | .hbm, ⟨3, _⟩ => ⟨S1024x2816, .f32⟩
  | .hbm, ⟨4, _⟩ => ⟨S8256x1024, .f32⟩
  | .hbm, ⟨5, _⟩ => ⟨S1024, .f32⟩
  | .hbm, ⟨6, _⟩ => ⟨S8256x1024, .f32⟩
  | .hbm, ⟨7, _⟩ => ⟨S8256x1024, .f32⟩
  | .hbm, ⟨8, _⟩ => ⟨S_, .f32⟩
  | .hbm, ⟨9, _⟩ => ⟨S8256, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S_, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S_, .f32⟩
  | .hbm, ⟨20, _⟩ => ⟨S8256x1, .f32⟩
  | .hbm, ⟨21, _⟩ => ⟨S8256x1, .f32⟩
  | .hbm, ⟨22, _⟩ => ⟨S8256x1024, .f32⟩
  | .hbm, ⟨23, _⟩ => ⟨S8256x1024, .f32⟩
  | .hbm, ⟨24, _⟩ => ⟨S1x1024, .f32⟩
  | .hbm, ⟨25, _⟩ => ⟨S8256x1024, .f32⟩
  | .hbm, ⟨26, _⟩ => ⟨S8256x1024, .f32⟩
  | .hbm, ⟨27, _⟩ => ⟨S8256x2816, .f32⟩
  | .hbm, ⟨28, _⟩ => ⟨S8256x2816, .f32⟩
  | .hbm, ⟨29, _⟩ => ⟨S4x8256x704, .f32⟩
  | .hbm, ⟨30, _⟩ => ⟨S8256x4x704, .f32⟩
  | .hbm, ⟨31, _⟩ => ⟨S8256x2816, .f32⟩
  | .hbm, ⟨32, _⟩ => ⟨S4x8256x704, .f32⟩
  | .hbm, ⟨33, _⟩ => ⟨S8256x4x704, .f32⟩
  | .hbm, ⟨34, _⟩ => ⟨S8256x2816, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S8256x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8256x1024, .f32⟩
  | .hbm, ⟨43, _⟩ => ⟨S8256x1024, .f32⟩
  | .hbm, ⟨44, _⟩ => ⟨S_, .f32⟩
  | .hbm, ⟨45, _⟩ => ⟨S1024, .f32⟩
  | .hbm, ⟨46, _⟩ => ⟨S8256x1024, .f32⟩
  | .hbm, ⟨47, _⟩ => ⟨S_, .f32⟩
  | .hbm, ⟨48, _⟩ => ⟨S8256, .f32⟩
  | .hbm, ⟨49, _⟩ => ⟨S8256x1, .f32⟩
  | .hbm, ⟨50, _⟩ => ⟨S8256x1024, .f32⟩
  | .hbm, ⟨51, _⟩ => ⟨S8256x1024, .f32⟩
  | .hbm, ⟨52, _⟩ => ⟨S8256x1, .f32⟩
  | .hbm, ⟨53, _⟩ => ⟨S_, .f32⟩
  | .hbm, ⟨54, _⟩ => ⟨S8256x1, .f32⟩
  | .hbm, ⟨55, _⟩ => ⟨S8256x1, .f32⟩
  | .hbm, ⟨56, _⟩ => ⟨S_, .f32⟩
  | .hbm, ⟨57, _⟩ => ⟨S8256, .f32⟩
  | .hbm, ⟨58, _⟩ => ⟨S8256x1024, .f32⟩
  | .hbm, ⟨59, _⟩ => ⟨S8256x1024, .f32⟩
  | .hbm, ⟨60, _⟩ => ⟨S8256x1024, .f32⟩
  | .hbm, ⟨61, _⟩ => ⟨S8256x1024, .f32⟩
  | .hbm, ⟨62, _⟩ => ⟨S8256x1024, .f32⟩
  | .hbm, ⟨63, _⟩ => ⟨S8256x1024, .f32⟩
  | .hbm, ⟨64, _⟩ => ⟨S8256x1024, .f32⟩
  | .hbm, ⟨65, _⟩ => ⟨S8256x1024, .bf16⟩
  | .hbm, ⟨66, _⟩ => ⟨S1x1024, .f32⟩
  | _, _ => ⟨S4x8256x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Scalar.lean ====
/- Scalar facts over the extended reals that the value modules share. -/
module

public import Idealize.ShloMosaic.Lib.Claim
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Scalar

/-- The word `0x3F000000` is one half. -/
theorem ofBits_half : Ideal.ofBits .f32 0x3F000000#32 = (((1 / 2 : ℝ)) : EReal) := by
  simp [Ideal.ofBits, Ideal.ieee, -EReal.coe_mul]; norm_num

/-- On the reals the logistic function is half a hyperbolic tangent of the half argument plus one half. -/
theorem real_sigmoid (r : ℝ) : (1 + Real.exp (-r))⁻¹ = 1 / 2 * Real.tanh (1 / 2 * r) + 1 / 2 := by
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  have hp := Real.exp_pos (1 / 2 * r)
  have hq := Real.exp_pos (-(1 / 2 * r))
  rw [Real.tanh_eq_sinh_div_cosh, Real.sinh_eq, Real.cosh_eq, h1]
  generalize Real.exp (1 / 2 * r) = p at *
  generalize Real.exp (-(1 / 2 * r)) = q at *
  have h3 : p = 1 / q := by field_simp; linarith
  subst h3
  field_simp
  ring

/-- The same over the extended reals, at the infinities too. -/
theorem sigmoid (x : EReal) : Ideal.ofBits .f32 0x3F000000#32 * Ideal.tanh (Ideal.ofBits .f32 0x3F000000#32 * x)
    + Ideal.ofBits .f32 0x3F000000#32 = Ideal.logistic x := by
  rw [ofBits_half]
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, real_sigmoid]

/-- The quotient the reference writes is the logistic function. -/
theorem div_exp (x : EReal) : Ideal.div 1 (1 + Ideal.exp (-x)) = Ideal.logistic x := rfl

/-- A positive real factor goes into a sum of extended reals. -/
theorem mul_sum_pos {ι : Type*} (s : Finset ι) (r : ℝ) (hr : 0 ≤ r) (f : ι → EReal) :
    (r : EReal) * ∑ x ∈ s, f x = ∑ x ∈ s, (r : EReal) * f x := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- A sum of products of reals is a real. -/
theorem sum_real {ι : Type*} (s : Finset ι) (f g : ι → EReal) (hf : ∀ k, ∃ r : ℝ, f k = (r : EReal))
    (hg : ∀ k, ∃ r : ℝ, g k = (r : EReal)) : ∃ r : ℝ, ∑ k ∈ s, f k * g k = (r : EReal) := by
  classical
  induction s using Finset.induction_on with
  | empty => exact ⟨0, by simp⟩
  | insert a s ha ih =>
    obtain ⟨x, hx⟩ := ih
    obtain ⟨u, hu⟩ := hf a
    obtain ⟨v, hv⟩ := hg a
    exact ⟨u * v + x, by rw [Finset.sum_insert ha, hx, hu, hv, EReal.coe_add, EReal.coe_mul]⟩

/-- The derivative of `a * logistic a`, with a real factor `x`: one product against the sum of two products. The
    argument `a` may be infinite. -/
theorem silu_deriv (x : ℝ) (a : EReal) :
    (x : EReal) * (Ideal.logistic a * (1 + a * (1 - Ideal.logistic a)))
      = (x : EReal) * Ideal.logistic a + a * (x : EReal) * (Ideal.logistic a * (1 - Ideal.logistic a)) := by
  induction a using EReal.rec with
  | bot => simp [Ideal.logistic_bot]
  | top =>
    have h : (1 : EReal) - 1 = 0 := by rw [← EReal.coe_one, ← EReal.coe_sub]; simp
    simp [Ideal.logistic_top, h]
  | coe r =>
    rw [Ideal.logistic_coe, ← EReal.coe_one]
    simp only [← EReal.coe_mul, ← EReal.coe_add, ← EReal.coe_sub]
    congr 1
    ring

/-- The gradient of the first hidden product: the kernel's expression is the reference's, when the gradient of the
    product `d` and the second hidden product `c` are reals. -/
theorem da_eq (S d A a C c : EReal) (hS : Ideal.ofBits .f32 0x3F000000#32 * S = d) (hA : A = a) (hC : C = c)
    (hd : ∃ r : ℝ, d = (r : EReal)) (hc : ∃ r : ℝ, c = (r : EReal)) :
    (Ideal.ofBits .f32 0x3F000000#32 * S) * C *
      ((Ideal.ofBits .f32 0x3F000000#32 * Ideal.tanh (Ideal.ofBits .f32 0x3F000000#32 * A) + Ideal.ofBits .f32 0x3F000000#32) *
        (1 + A * (1 - (Ideal.ofBits .f32 0x3F000000#32 * Ideal.tanh (Ideal.ofBits .f32 0x3F000000#32 * A) + Ideal.ofBits .f32 0x3F000000#32))))
      = (d * c) * Ideal.div 1 (1 + Ideal.exp (-a)) + a * (d * c) * (Ideal.div 1 (1 + Ideal.exp (-a)) * (1 - Ideal.div 1 (1 + Ideal.exp (-a)))) := by
  subst hA hC
  obtain ⟨x, hx⟩ := hd
  obtain ⟨y, hy⟩ := hc
  rw [hS, sigmoid, div_exp, hx, hy, ← EReal.coe_mul]
  exact silu_deriv _ _

/-- The gradient of the second hidden product: the kernel's expression is the reference's. -/
theorem dc_eq (S d A a : EReal) (hS : Ideal.ofBits .f32 0x3F000000#32 * S = d) (hA : A = a) :
    (Ideal.ofBits .f32 0x3F000000#32 * S) *
      (A * (Ideal.ofBits .f32 0x3F000000#32 * Ideal.tanh (Ideal.ofBits .f32 0x3F000000#32 * A) + Ideal.ofBits .f32 0x3F000000#32))
      = a * Ideal.div 1 (1 + Ideal.exp (-a)) * d := by
  subst hA
  rw [hS, sigmoid, div_exp, mul_comm]

end Cert.Scalar

end
-- ==== Proof.PreFinite.lean ====
/- What the precondition says over the extended reals: four of the five arguments have no infinite entry. -/
module

public import proofs.«01_k».proof.Pre_finite
public import proofs.«01_k».proof.Proof.Scalar
public import Idealize.ShloMosaic.Lib.ReduceAll

@[expose] public section

set_option maxRecDepth 16384

noncomputable section

open Idealize.ShloMosaic

namespace Cert.Finite

/-- The word `0x7F800000` is positive infinity. -/
theorem ofBits_inf : Ideal.ofBits .f32 0x7F800000#32 = (⊤ : EReal) := by
  simp [Ideal.ofBits, Ideal.ieee]

/-- An extended real whose absolute value is below infinity is a real. -/
theorem real_of_lt {s : Shape} (a : FVec Ideal s .f32) (b : FVec Ideal s .f32) (i : s.Idx) (hb : b i = (⊤ : EReal))
    (h : cmpf .olt (Host.absf a) b i = 1#1) : ∃ r : ℝ, a i = (r : EReal) := by
  have h1 : Ideal.cmp .olt (max (a i) (-(a i)) : EReal) (b i) = 1#1 := h
  rw [hb] at h1
  have h2 : (max (a i) (-(a i)) : EReal) < ⊤ := by
    by_contra hn
    simp [Ideal.cmp, hn] at h1
  show ∃ r : ℝ, (a i : EReal) = (r : EReal)
  generalize (a i : EReal) = x at h2 ⊢
  change EReal at x
  induction x using EReal.rec with
  | bot => simp at h2
  | top => simp at h2
  | coe r => exact ⟨r, rfl⟩

open Cert.Pre_finite

/-- The shapes the precondition's operations ask for are as asked. -/
instance facts : Cert.Pre_finite.Facts where
  bcast_S_S8256x1024 := by decide
  reducesTo_S8256x1024_S_d0_1 := by decide
  h_S_ := by decide
  bcast_S_S1024x2816 := by decide
  reducesTo_S1024x2816_S_d0_1 := by decide
  bcast_S_S2816x1024 := by decide
  reducesTo_S2816x1024_S_d0_1 := by decide

/-- Under the precondition every entry of the first, second, fourth and fifth argument is a real. -/
theorem reals (a0 a1 : FVec Ideal S8256x1024 .f32) (a2 a3 : FVec Ideal S1024x2816 .f32) (a4 : FVec Ideal S2816x1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) := by
  have e := congrFun h (Shape.Idx.first Facts.h_S_)
  simp only [fn, fn_part1, andi] at e
  obtain ⟨e3, e4⟩ := IntOp.andi_eq_one.1 e
  obtain ⟨e2, e3⟩ := IntOp.andi_eq_one.1 e3
  obtain ⟨e0, e1⟩ := IntOp.andi_eq_one.1 e2
  haveI : Subsingleton S_.Idx := ⟨fun a b => funext fun k => k.elim0⟩
  exact ⟨fun i => real_of_lt a0 _ i ofBits_inf (Host.reduce_andi_all _ _ _ _ _ e0 i),
    fun i => real_of_lt a1 _ i ofBits_inf (Host.reduce_andi_all _ _ _ _ _ e1 i),
    fun i => real_of_lt a3 _ i ofBits_inf (Host.reduce_andi_all _ _ _ _ _ e3 i),
    fun i => real_of_lt a4 _ i ofBits_inf (Host.reduce_andi_all _ _ _ _ _ e4 i)⟩

end Cert.Finite

end
-- ==== Proof.ValK1Up.lean ====
/- The forward hidden products: what the first call leaves in the two saved hidden arrays. -/
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Scalar
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelIdeal.Val

open Cert.KernelIdeal Cert.KernelIdeal.Gen Cert.Scalar

variable (m : (ℓ : Loc nD τ sig) → Buf (Elt Ideal) ℓ)

/-- A hidden array: entry `(s, i, f)` is row `i` of the layer's input times column `704 s + f` of the weights. -/
def hid (n : FVec Ideal S8256x1024 .f32) (w : FVec Ideal S1024x2816 .f32) : FVec Ideal S4x8256x704 .bf16 := fun i =>
  ∑ k : Fin 1024, HMul.hMul (α := EReal) (β := EReal) (γ := EReal) (n (ix2 (i 1) k))
    (w (ix2 k ⟨(i 0).val * 704 + (i 2).val, by have h0 : (i 0).val < 4 := (i 0).isLt; have h2 : (i 2).val < 704 := (i 2).isLt; show _ < 2816; omega⟩))

/-- The arrays as the first call finds them. -/
abbrev VA (c : Dev nD) (b : Ref sig .tc) : Buf (Elt Ideal) ((c : Thread nD τ).loc b) := StableHlo.after hostOps0 (fun b => m (c, b)) b

/-- Which block each window of the first call stages at each grid point. -/
theorem idx0 : ∀ t : Fin cfg0.N, win0_0.index t = ![t.val % 6, 0]
    ∧ win0_1.index t = ![t.val / 6, 0, 0]
    ∧ win0_2.index t = ![t.val / 6, 0, 0]
    ∧ win0_3.index t = ![t.val / 6, t.val % 6, 0]
    ∧ win0_4.index t = ![t.val / 6, t.val % 6, 0]
    ∧ win0_5.index t = ![t.val / 6, t.val % 6, 0] :=
  (by decide +kernel : ∀ t : Fin grid0.N, _)

/-- The first hidden product at a grid point and block index. -/
theorem point_3 (c : Dev nD) (t : Fin cfg0.N) (y) :
    k0_pay4 (iblk0 (VA m) c 0 t) (iblk0 (VA m) c 1 t) y
      = hid (m ((c : Thread nD τ).loc main_arg1)) (m ((c : Thread nD τ).loc main_arg2)) (((cfg0.win 3).blk t).view.emb y) := by
  pointwise [k0_pay4, k0_pay2, k0_pay1, hid]
  refine Finset.sum_congr rfl fun k _ => ?_
  congr 1
  · blk_point [iblk0, VA, idx0 t]
  · blk_point [iblk0, VA, idx0 t]

/-- The same of the other hidden product. -/
theorem point_4 (c : Dev nD) (t : Fin cfg0.N) (y) :
    k0_pay5 (iblk0 (VA m) c 0 t) (iblk0 (VA m) c 2 t) y
      = hid (m ((c : Thread nD τ).loc main_arg1)) (m ((c : Thread nD τ).loc main_arg3)) (((cfg0.win 4).blk t).view.emb y) := by
  pointwise [k0_pay5, k0_pay3, k0_pay1, hid]
  refine Finset.sum_congr rfl fun k _ => ?_
  congr 1
  · blk_point [iblk0, VA, idx0 t]
  · blk_point [iblk0, VA, idx0 t]

/-- The first saved hidden array after the first call. -/
theorem final_3 (c : Dev nD) : (dat0 (VA m) c).arrAt 3 cfg0.N
    = hid (m ((c : Thread nD τ).loc main_arg1)) (m ((c : Thread nD τ).loc main_arg2)) := by
  refine (dat0 (VA m) c).arrAt_eq_of_covers 3 _ (by decide +kernel) fun t hf y => ?_
  blk_simp; rw [after0_3]; frame_out
  exact point_3 m c t y

/-- The second saved hidden array after the first call. -/
theorem final_4 (c : Dev nD) : (dat0 (VA m) c).arrAt 4 cfg0.N
    = hid (m ((c : Thread nD τ).loc main_arg1)) (m ((c : Thread nD τ).loc main_arg3)) := by
  refine (dat0 (VA m) c).arrAt_eq_of_covers 4 _ (by decide +kernel) fun t hf y => ?_
  blk_simp; rw [after0_4]; frame_out
  exact point_4 m c t y

end Cert.KernelIdeal.Val

end
-- ==== Proof.ValK1Down.lean ====
/- The gradients of the two hidden arrays: what the second call leaves. -/
module
public import proofs.«01_k».proof.Proof.ValK1Up
public import proofs.«01_k».proof.Proof.Gen.ReferenceIdeal
public import proofs.«01_k».proof.Proof.PreFinite

@[expose] public section

set_option maxRecDepth 16384

noncomputable section

open Idealize.ShloMosaic Idealize.ShloMosaic.TcCoe Idealize.SL.Sem
open Idealize.ShloMosaic.Pipeline (Dat)
open scoped BigOperators

namespace Cert.KernelIdeal.Val

open Cert.KernelIdeal Cert.KernelIdeal.Gen Cert.Scalar

variable (V : (c : Dev nD) → (b : Ref sig .tc) → Buf (Elt Ideal) ((c : Thread nD τ).loc b))

/-- Which block each window of the second call stages at each grid point. -/
theorem idx1 : ∀ t : Fin cfg1.N, win1_0.index t = ![t.val / 4, 0]
    ∧ win1_1.index t = ![0, 0, 0]
    ∧ win1_2.index t = ![t.val % 4, t.val / 4, 0]
    ∧ win1_3.index t = ![t.val % 4, t.val / 4, 0]
    ∧ win1_4.index t = ![t.val % 4, t.val / 4, 0]
    ∧ win1_5.index t = ![t.val % 4, t.val / 4, 0] :=
  (by decide +kernel : ∀ t : Fin grid1.N, _)

/-- The reference's gradient of the first hidden product as a term of its arguments. -/
abbrev refDa (a0 : FVec Ideal Cert.ReferenceIdeal.S8256x1024 .f32) (a1 : FVec Ideal Cert.ReferenceIdeal.S8256x1024 .f32) (a2 : FVec Ideal Cert.ReferenceIdeal.S1024x2816 .f32) (a3 : FVec Ideal Cert.ReferenceIdeal.S1024x2816 .f32) (a4 : FVec Ideal Cert.ReferenceIdeal.S2816x1024 .f32) :
    FVec Ideal Cert.ReferenceIdeal.S4x8256x704 .bf16 :=
  truncf .bf16 (transpose Cert.ReferenceIdeal.S4x8256x704 [1, 0, 2] (shapeCast _ (addf (mulf (mulf (Host.dotGeneral Cert.ReferenceIdeal.dot_S8256x1024_S2816x1024_S8256x2816_1_1_0_0_n_n none (mulf (broadcastInDim Cert.ReferenceIdeal.S8256x1024 ![] Cert.ReferenceIdeal.Gen.bcast_S_S8256x1024 (constant Cert.ReferenceIdeal.S_ .f32 0x3F000000#32)) a0) a4) (Host.dotGeneral Cert.ReferenceIdeal.dot_S8256x1024_S1024x2816_S8256x2816_1_0_0_1_n_n none a1 a3)) (Host.divf (broadcastInDim Cert.ReferenceIdeal.S8256x2816 ![] Cert.ReferenceIdeal.Gen.bcast_S_S8256x2816 (constant Cert.ReferenceIdeal.S_ .f32 0x3F800000#32)) (addf (broadcastInDim Cert.ReferenceIdeal.S8256x2816 ![] Cert.ReferenceIdeal.Gen.bcast_S_S8256x2816 (constant Cert.ReferenceIdeal.S_ .f32 0x3F800000#32)) (Host.exp (Host.negf (Host.dotGeneral Cert.ReferenceIdeal.dot_S8256x1024_S1024x2816_S8256x2816_1_0_0_1_n_n none a1 a2)))))) (mulf (mulf (Host.dotGeneral Cert.ReferenceIdeal.dot_S8256x1024_S1024x2816_S8256x2816_1_0_0_1_n_n none a1 a2) (mulf (Host.dotGeneral Cert.ReferenceIdeal.dot_S8256x1024_S2816x1024_S8256x2816_1_1_0_0_n_n none (mulf (broadcastInDim Cert.ReferenceIdeal.S8256x1024 ![] Cert.ReferenceIdeal.Gen.bcast_S_S8256x1024 (constant Cert.ReferenceIdeal.S_ .f32 0x3F000000#32)) a0) a4) (Host.dotGeneral Cert.ReferenceIdeal.dot_S8256x1024_S1024x2816_S8256x2816_1_0_0_1_n_n none a1 a3))) (mulf (Host.divf (broadcastInDim Cert.ReferenceIdeal.S8256x2816 ![] Cert.ReferenceIdeal.Gen.bcast_S_S8256x2816 (constant Cert.ReferenceIdeal.S_ .f32 0x3F800000#32)) (addf (broadcastInDim Cert.ReferenceIdeal.S8256x2816 ![] Cert.ReferenceIdeal.Gen.bcast_S_S8256x2816 (constant Cert.ReferenceIdeal.S_ .f32 0x3F800000#32)) (Host.exp (Host.negf (Host.dotGeneral Cert.ReferenceIdeal.dot_S8256x1024_S1024x2816_S8256x2816_1_0_0_1_n_n none a1 a2))))) (subf (broadcastInDim Cert.ReferenceIdeal.S8256x2816 ![] Cert.ReferenceIdeal.Gen.bcast_S_S8256x2816 (constant Cert.ReferenceIdeal.S_ .f32 0x3F800000#32)) (Host.divf (broadcastInDim Cert.ReferenceIdeal.S8256x2816 ![] Cert.ReferenceIdeal.Gen.bcast_S_S8256x2816 (constant Cert.ReferenceIdeal.S_ .f32 0x3F800000#32)) (addf (broadcastInDim Cert.ReferenceIdeal.S8256x2816 ![] Cert.ReferenceIdeal.Gen.bcast_S_S8256x2816 (constant Cert.ReferenceIdeal.S_ .f32 0x3F800000#32)) (Host.exp (Host.negf (Host.dotGeneral Cert.ReferenceIdeal.dot_S8256x1024_S1024x2816_S8256x2816_1_0_0_1_n_n none a1 a2))))))))) Cert.ReferenceIdeal.Gen.shapeCasts_S8256x2816_S8256x4x704) Cert.ReferenceIdeal.Gen.transposes_S8256x4x704_S4x8256x704_1_0_2) Cert.ReferenceIdeal.Gen.bitsLt_bf16_f32

/-- The reference's gradient of the second hidden product as a term of its arguments. -/
abbrev refDc (a0 : FVec Ideal Cert.ReferenceIdeal.S8256x1024 .f32) (a1 : FVec Ideal Cert.ReferenceIdeal.S8256x1024 .f32) (a2 : FVec Ideal Cert.ReferenceIdeal.S1024x2816 .f32) (a4 : FVec Ideal Cert.ReferenceIdeal.S2816x1024 .f32) :
    FVec Ideal Cert.ReferenceIdeal.S4x8256x704 .bf16 :=
  truncf .bf16 (transpose Cert.ReferenceIdeal.S4x8256x704 [1, 0, 2] (shapeCast _ (mulf (mulf (Host.dotGeneral Cert.ReferenceIdeal.dot_S8256x1024_S1024x2816_S8256x2816_1_0_0_1_n_n none a1 a2) (Host.divf (broadcastInDim Cert.ReferenceIdeal.S8256x2816 ![] Cert.ReferenceIdeal.Gen.bcast_S_S8256x2816 (constant Cert.ReferenceIdeal.S_ .f32 0x3F800000#32)) (addf (broadcastInDim Cert.ReferenceIdeal.S8256x2816 ![] Cert.ReferenceIdeal.Gen.bcast_S_S8256x2816 (constant Cert.ReferenceIdeal.S_ .f32 0x3F800000#32)) (Host.exp (Host.negf (Host.dotGeneral Cert.ReferenceIdeal.dot_S8256x1024_S1024x2816_S8256x2816_1_0_0_1_n_n none a1 a2)))))) (Host.dotGeneral Cert.ReferenceIdeal.dot_S8256x1024_S2816x1024_S8256x2816_1_1_0_0_n_n none (mulf (broadcastInDim Cert.ReferenceIdeal.S8256x1024 ![] Cert.ReferenceIdeal.Gen.bcast_S_S8256x1024 (constant Cert.ReferenceIdeal.S_ .f32 0x3F000000#32)) a0) a4)) Cert.ReferenceIdeal.Gen.shapeCasts_S8256x2816_S8256x4x704) Cert.ReferenceIdeal.Gen.transposes_S8256x4x704_S4x8256x704_1_0_2) Cert.ReferenceIdeal.Gen.bitsLt_bf16_f32

/-- The slot of the staged weights that the second call's body loads at each grid point. -/
theorem off1 : ∀ t : Fin cfg1.N, k1_off1 (grid1.coords t) = ![t.val % 4, 0, 0] :=
  (by decide +kernel : ∀ t : Fin grid1.N, _)

/-- The gradient's block, read at a block index of result 4. -/
theorem dh_at (c : Dev nD) (t : Fin cfg1.N) (y : S1x1376x704.Idx) (j : S4x8256x704.Idx)
    (hj : j = (((View.whole main_v11_0).slice ((win1 4).rect t)).emb y)) (k : Fin 1024) :
    iblk1 V c 0 t (ix2 (y 1) k) = V c main_v1 (ix2 (j 1) k) := by
  subst hj
  blk_point [iblk1, idx1 t]

/-- The first hidden array's block, read at a block index of result 4. -/
theorem a_at (c : Dev nD) (t : Fin cfg1.N) (y : S1x1376x704.Idx) (j : S4x8256x704.Idx)
    (hj : j = (((View.whole main_v11_0).slice ((win1 4).rect t)).emb y)) :
    iblk1 V c 2 t y = V c main_v8_0 j := by
  subst hj
  blk_point [iblk1, idx1 t]

/-- The second hidden array's block, read at a block index of result 4. -/
theorem c_at (c : Dev nD) (t : Fin cfg1.N) (y : S1x1376x704.Idx) (j : S4x8256x704.Idx)
    (hj : j = (((View.whole main_v11_0).slice ((win1 4).rect t)).emb y)) :
    iblk1 V c 3 t y = V c main_v8_1 j := by
  subst hj
  blk_point [iblk1, idx1 t]

/-- The down projection's slot, read at a block index of result 4. -/
theorem w_at (c : Dev nD) (t : Fin cfg1.N) (y : S1x1376x704.Idx) (j : S4x8256x704.Idx)
    (hj : j = (((View.whole main_v11_0).slice ((win1 4).rect t)).emb y)) (k : Fin 1024) :
    View.ld (iblk1 V c 1 t) (Rect.unit (s := S4x704x1024) (k1_off1 (grid1.coords t)) S1x704x1024.size (k1_off1_inb (grid1.coords t))) (ix3 0 (y 2) k)
      = V c main_v10 (ix3 (j 0) (j 2) k) := by
  subst hj
  have ho := off1 t
  blk_point [View.ld, off1 t, iblk1, idx1 t]
  all_goals simp [Rect.unit, LoadRect.idx, ho]

/-- The gradient's block, read at a block index of result 5. -/
theorem dh_at' (c : Dev nD) (t : Fin cfg1.N) (y : S1x1376x704.Idx) (j : S4x8256x704.Idx)
    (hj : j = (((View.whole main_v11_1).slice ((win1 5).rect t)).emb y)) (k : Fin 1024) :
    iblk1 V c 0 t (ix2 (y 1) k) = V c main_v1 (ix2 (j 1) k) := by
  subst hj
  blk_point [iblk1, idx1 t]

/-- The first hidden array's block, read at a block index of result 5. -/
theorem a_at' (c : Dev nD) (t : Fin cfg1.N) (y : S1x1376x704.Idx) (j : S4x8256x704.Idx)
    (hj : j = (((View.whole main_v11_1).slice ((win1 5).rect t)).emb y)) :
    iblk1 V c 2 t y = V c main_v8_0 j := by
  subst hj
  blk_point [iblk1, idx1 t]

/-- The down projection's slot, read at a block index of result 5. -/
theorem w_at' (c : Dev nD) (t : Fin cfg1.N) (y : S1x1376x704.Idx) (j : S4x8256x704.Idx)
    (hj : j = (((View.whole main_v11_1).slice ((win1 5).rect t)).emb y)) (k : Fin 1024) :
    View.ld (iblk1 V c 1 t) (Rect.unit (s := S4x704x1024) (k1_off1 (grid1.coords t)) S1x704x1024.size (k1_off1_inb (grid1.coords t))) (ix3 0 (y 2) k)
      = V c main_v10 (ix3 (j 0) (j 2) k) := by
  subst hj
  have ho := off1 t
  blk_point [View.ld, off1 t, iblk1, idx1 t]
  all_goals simp [Rect.unit, LoadRect.idx, ho]

variable (m : (ℓ : Loc nD τ sig) → Buf (Elt Ideal) ℓ) (ρ : Dev nD → PrngReg)

/-- The gradient as the second call finds it. -/
theorem entry_dh (c : Dev nD) (i) : V3 (F := Ideal) m ρ c main_v1 i = m ((c : Thread nD τ).loc main_arg0) i := by
  rw [show V3 (F := Ideal) m ρ c main_v1 = VA m c main_v1 from
    (W3_of m ρ c main_v1 (by decide)).trans (W2_of_ne m ρ c main_v1 (by decide))]
  blk_point [VA]

/-- The first hidden array as the second call finds it. -/
theorem entry_a (c : Dev nD) : V3 (F := Ideal) m ρ c main_v8_0
    = hid (m ((c : Thread nD τ).loc main_arg1)) (m ((c : Thread nD τ).loc main_arg2)) :=
  (W3_of m ρ c main_v8_0 (by decide)).trans ((W2_arr m ρ c 3).trans (final_3 m c))

/-- The second hidden array as the second call finds it. -/
theorem entry_c (c : Dev nD) : V3 (F := Ideal) m ρ c main_v8_1
    = hid (m ((c : Thread nD τ).loc main_arg1)) (m ((c : Thread nD τ).loc main_arg3)) :=
  (W3_of m ρ c main_v8_1 (by decide)).trans ((W2_arr m ρ c 4).trans (final_4 m c))

/-- The down projection, in slots of rows, as the second call finds it. -/
theorem entry_w (c : Dev nD) (s : Fin 4) (f : Fin 704) (k : Fin 1024) :
    V3 (F := Ideal) m ρ c main_v10 (ix3 s f k) = m ((c : Thread nD τ).loc main_arg4)
      (ix2 ⟨s.val * 704 + f.val, by have := s.isLt; have := f.isLt; show _ < 2816; omega⟩ k) := by
  have h4 : W2 m ρ c (Proc.devRef .tc main_arg4) = m ((c : Thread nD τ).loc main_arg4) := W2_args m ρ c main_arg4 (by decide)
  have e : V3 (F := Ideal) m ρ c main_v10 = StableHlo.after hostOps1 (fun b => W2 m ρ c b) main_v10 := rfl
  rw [e, ← h4]
  generalize W2 m ρ c = W
  blk_point [hostOps1]

/-- A slot and an offset in it name a column of the whole. -/
theorem col_lt (j : S4x8256x704.Idx) : (j 0).val * 704 + (j 2).val < 2816 := by
  have h0 : (j 0).val < 4 := (j 0).isLt
  have h2 : (j 2).val < 704 := (j 2).isLt
  omega

/-- Half of the product with a slot of the down projection is the reference's product with one factor halved. -/
theorem half_d (c : Dev nD) (t : Fin cfg1.N) (y : S1x1376x704.Idx) (j : S4x8256x704.Idx)
    (hj : j = (((View.whole main_v11_0).slice ((win1 4).rect t)).emb y)) (h : (j 0).val * 704 + (j 2).val < 2816) :
    Ideal.ofBits .f32 0x3F000000#32 * (∑ k : Fin 1024, HMul.hMul (α := EReal) (β := EReal) (γ := EReal)
        (iblk1 (V3 (F := Ideal) m ρ) c 0 t (ix2 (y 1) k))
        (View.ld (iblk1 (V3 (F := Ideal) m ρ) c 1 t) (Rect.unit (s := S4x704x1024) (k1_off1 (grid1.coords t)) S1x704x1024.size (k1_off1_inb (grid1.coords t))) (ix3 0 (y 2) k)))
      = ∑ k : Fin 1024, HMul.hMul (α := EReal) (β := EReal) (γ := EReal)
          (HMul.hMul (α := EReal) (β := EReal) (γ := EReal) (Ideal.ofBits .f32 0x3F000000#32) (m ((c : Thread nD τ).loc main_arg0) (ix2 (j 1) k)))
          (m ((c : Thread nD τ).loc main_arg4) (ix2 ⟨(j 0).val * 704 + (j 2).val, h⟩ k)) := by
  rw [ofBits_half, mul_sum_pos _ _ (by norm_num)]
  refine Finset.sum_congr rfl fun k _ => ?_
  exact (congrArg (fun z : EReal => ((1 / 2 : ℝ) : EReal) * z) (congrArg₂ (fun a b : EReal => a * b)
    ((dh_at _ c t y j hj k).trans (entry_dh m ρ c _)) ((w_at _ c t y j hj k).trans (entry_w m ρ c (j 0) (j 2) k)))).trans
    (mul_assoc (G := EReal) _ _ _).symm

/-- Half of the product with a slot of the down projection is the reference's product with one factor halved. -/
theorem half_d' (c : Dev nD) (t : Fin cfg1.N) (y : S1x1376x704.Idx) (j : S4x8256x704.Idx)
    (hj : j = (((View.whole main_v11_1).slice ((win1 5).rect t)).emb y)) (h : (j 0).val * 704 + (j 2).val < 2816) :
    Ideal.ofBits .f32 0x3F000000#32 * (∑ k : Fin 1024, HMul.hMul (α := EReal) (β := EReal) (γ := EReal)
        (iblk1 (V3 (F := Ideal) m ρ) c 0 t (ix2 (y 1) k))
        (View.ld (iblk1 (V3 (F := Ideal) m ρ) c 1 t) (Rect.unit (s := S4x704x1024) (k1_off1 (grid1.coords t)) S1x704x1024.size (k1_off1_inb (grid1.coords t))) (ix3 0 (y 2) k)))
      = ∑ k : Fin 1024, HMul.hMul (α := EReal) (β := EReal) (γ := EReal)
          (HMul.hMul (α := EReal) (β := EReal) (γ := EReal) (Ideal.ofBits .f32 0x3F000000#32) (m ((c : Thread nD τ).loc main_arg0) (ix2 (j 1) k)))
          (m ((c : Thread nD τ).loc main_arg4) (ix2 ⟨(j 0).val * 704 + (j 2).val, h⟩ k)) := by
  rw [ofBits_half, mul_sum_pos _ _ (by norm_num)]
  refine Finset.sum_congr rfl fun k _ => ?_
  exact (congrArg (fun z : EReal => ((1 / 2 : ℝ) : EReal) * z) (congrArg₂ (fun a b : EReal => a * b)
    ((dh_at' _ c t y j hj k).trans (entry_dh m ρ c _)) ((w_at' _ c t y j hj k).trans (entry_w m ρ c (j 0) (j 2) k)))).trans
    (mul_assoc (G := EReal) _ _ _).symm

/-- The arguments that the precondition keeps from infinity. -/
abbrev Reals (c : Dev nD) : Prop :=
  (∀ i, ∃ r : ℝ, m ((c : Thread nD τ).loc main_arg0) i = (r : EReal))
    ∧ (∀ i, ∃ r : ℝ, m ((c : Thread nD τ).loc main_arg1) i = (r : EReal))
    ∧ (∀ i, ∃ r : ℝ, m ((c : Thread nD τ).loc main_arg3) i = (r : EReal))
    ∧ (∀ i, ∃ r : ℝ, m ((c : Thread nD τ).loc main_arg4) i = (r : EReal))

/-- The gradient of the first hidden product at a grid point and block index. -/
theorem point_da (c : Dev nD) (h : Reals m c) (t : Fin cfg1.N) (y) :
    k1_pay5 (iblk1 (V3 (F := Ideal) m ρ) c 0 t)
        (View.ld (iblk1 (V3 (F := Ideal) m ρ) c 1 t) (Rect.unit (s := S4x704x1024) (k1_off1 (grid1.coords t)) S1x704x1024.size (k1_off1_inb (grid1.coords t))))
        (iblk1 (V3 (F := Ideal) m ρ) c 2 t) (iblk1 (V3 (F := Ideal) m ρ) c 3 t) y
      = refDa (m ((c : Thread nD τ).loc main_arg0)) (m ((c : Thread nD τ).loc main_arg1)) (m ((c : Thread nD τ).loc main_arg2)) (m ((c : Thread nD τ).loc main_arg3)) (m ((c : Thread nD τ).loc main_arg4)) (((cfg1.win 4).blk t).view.emb y) := by
  obtain ⟨h0, h1, h3, h4⟩ := h
  have hS := half_d m ρ c t y _ rfl (col_lt _)
  have hA := (a_at (V3 (F := Ideal) m ρ) c t y _ rfl).trans (congrFun (entry_a m ρ c) _)
  have hC := (c_at (V3 (F := Ideal) m ρ) c t y _ rfl).trans (congrFun (entry_c m ρ c) _)
  generalize View.ld (iblk1 (V3 (F := Ideal) m ρ) c 1 t) (Rect.unit (s := S4x704x1024) (k1_off1 (grid1.coords t)) S1x704x1024.size (k1_off1_inb (grid1.coords t))) = w at hS ⊢
  pointwise [k1_pay5, k1_pay4, k1_pay3, k1_pay2, refDa]
  exact da_eq _ _ _ _ _ _ hS hA hC
    (sum_real _ _ _ (fun k => by
      obtain ⟨r, hr⟩ := h0 (ix2 ((((View.whole main_v11_0).slice ((win1 4).rect t)).emb y) 1) k)
      exact ⟨1 / 2 * r, by rw [hr, ofBits_half, EReal.coe_mul]⟩) (fun k => h4 _))
    (sum_real _ _ _ (fun k => h1 _) (fun k => h3 _))

/-- The gradient of the second hidden product at a grid point and block index. -/
theorem point_dc (c : Dev nD) (t : Fin cfg1.N) (y) :
    k1_pay1 (k1_pay6 (iblk1 (V3 (F := Ideal) m ρ) c 0 t)
        (View.ld (iblk1 (V3 (F := Ideal) m ρ) c 1 t) (Rect.unit (s := S4x704x1024) (k1_off1 (grid1.coords t)) S1x704x1024.size (k1_off1_inb (grid1.coords t))))
        (iblk1 (V3 (F := Ideal) m ρ) c 2 t)) y
      = refDc (m ((c : Thread nD τ).loc main_arg0)) (m ((c : Thread nD τ).loc main_arg1)) (m ((c : Thread nD τ).loc main_arg2)) (m ((c : Thread nD τ).loc main_arg4)) (((cfg1.win 5).blk t).view.emb y) := by
  have hS := half_d' m ρ c t y _ rfl (col_lt _)
  have hA := (a_at' (V3 (F := Ideal) m ρ) c t y _ rfl).trans (congrFun (entry_a m ρ c) _)
  generalize View.ld (iblk1 (V3 (F := Ideal) m ρ) c 1 t) (Rect.unit (s := S4x704x1024) (k1_off1 (grid1.coords t)) S1x704x1024.size (k1_off1_inb (grid1.coords t))) = w at hS ⊢
  pointwise [k1_pay1, k1_pay6, k1_pay4, k1_pay3, k1_pay2, refDc]
  exact dc_eq _ _ _ _ hS hA

/-- The gradient of the first hidden product after the second call. -/
theorem final_da (c : Dev nD) (h : Reals m c) : (dat1 (V3 (F := Ideal) m ρ) c).arrAt 4 cfg1.N
    = refDa (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V3 (F := Ideal) m ρ) c).arrAt_eq_of_covers 4 _ (by decide +kernel) fun t hf y => ?_
  blk_simp; rw [after1_4]
  dsimp only [outsAt1]
  frame_out
  exact point_da m ρ c h t y

/-- The gradient of the second hidden product after the second call. -/
theorem final_dc (c : Dev nD) : (dat1 (V3 (F := Ideal) m ρ) c).arrAt 5 cfg1.N
    = refDc (m ((c : Thread nD τ).loc main_arg0)) (m ((c : Thread nD τ).loc main_arg1)) (m ((c : Thread nD τ).loc main_arg2)) (m ((c : Thread nD τ).loc main_arg4)) := by
  refine (dat1 (V3 (F := Ideal) m ρ) c).arrAt_eq_of_covers 5 _ (by decide +kernel) fun t hf y => ?_
  blk_simp; rw [after1_5]
  dsimp only [outsAt1]
  frame_out
  exact point_dc m ρ c t y

end Cert.KernelIdeal.Val

end
-- ==== Proof.ValK1Run.lean ====
/- The run of the two calls, with what they leave in the results. -/
module

public import proofs.«01_k».proof.Proof.ValK1Down

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Val

open Cert.KernelIdeal Cert.KernelIdeal.Gen

variable (m : (ℓ : Loc nD τ sig) → Buf (Elt Ideal) ℓ) (ρ : Dev nD → PrngReg)

set_option backward.isDefEq.respectTransparency.types false in
/-- The run of both calls: the two results hold the reference's gradients, the arguments what they held. -/
theorem run (h : ∀ c, Reals m c) : θ_run defs (onTc (τ := τ) (main (F := Ideal))) ⟨m, fun _ => 0, ρ⟩ (fun r => ∀ c : Dev nD,
      r.2.mem ((c.tc : Thread nD τ).loc main_v11_0) = refDa (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v11_1) = refDc (m ((c : Thread nD τ).loc main_arg0)) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s hb _ => fun c =>
      ⟨(hb c _ (mem_uc main_v11_0 (by decide))).trans ((W4_arr m ρ c 4).trans (final_da m ρ c (h c))),
       (hb c _ (mem_uc main_v11_1 (by decide))).trans ((W4_arr m ρ c 5).trans (final_dc m ρ c)),
       (hb c _ (mem_uc main_arg0 (by decide))).trans (W4_main_arg0 m ρ c),
       (hb c _ (mem_uc main_arg1 (by decide))).trans (W4_main_arg1 m ρ c),
       (hb c _ (mem_uc main_arg2 (by decide))).trans (W4_main_arg2 m ρ c),
       (hb c _ (mem_uc main_arg3 (by decide))).trans (W4_main_arg3 m ρ c),
       (hb c _ (mem_uc main_arg4 (by decide))).trans (W4_main_arg4 m ρ c)⟩)

end Cert.KernelIdeal.Val

end
-- ==== Proof.ValK2.lean ====
/- The value of the gated feed-forward's down-projection weight gradient: the product accumulated over the two row blocks
   is the reference's whole product. -/
module

public import proofs.«01_k».proof.Proof.Gen.Kernel2Ideal.Frame
public import proofs.«01_k».proof.Proof.Gen.Reference2Ideal
public import proofs.«01_k».proof.Proof.Scalar
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Val

open Cert.Kernel2Ideal Cert.Kernel2Ideal.Gen Cert.Scalar

variable (m : (ℓ : Loc nD τ sig) → Buf (Elt Ideal) ℓ)

/-- The reference's result as a term of its two arguments. -/
abbrev REF (a0 : FVec Ideal Cert.Reference2Ideal.S8256x1024 .f32) (a1 : FVec Ideal Cert.Reference2Ideal.S4x8256x704 .bf16) :
    FVec Ideal Cert.Reference2Ideal.S4x704x1024 .f32 :=
  shapeCast _ (transpose Cert.Reference2Ideal.S2816x1024 [1, 0] (Host.dotGeneral Cert.Reference2Ideal.dot_S8256x1024_S8256x2816_S1024x2816_0_0_1_1_n_n none (mulf (broadcastInDim Cert.Reference2Ideal.S8256x1024 ![] Cert.Reference2Ideal.Gen.bcast_S_S8256x1024 (constant Cert.Reference2Ideal.S_ .f32 0x3F000000#32)) a0) (shapeCast _ (transpose Cert.Reference2Ideal.S8256x4x704 [1, 0, 2] (extf .f32 a1 Cert.Reference2Ideal.Gen.bitsLt_bf16_f32) Cert.Reference2Ideal.Gen.transposes_S4x8256x704_S8256x4x704_1_0_2) Cert.Reference2Ideal.Gen.shapeCasts_S8256x4x704_S8256x2816)) Cert.Reference2Ideal.Gen.transposes_S1024x2816_S2816x1024_1_0) Cert.Reference2Ideal.Gen.shapeCasts_S2816x1024_S4x704x1024

/-- Which block each window stages at each grid point. -/
theorem idx : ∀ t : Fin cfg0.N, win0_0.index t = ![t.val / 2, t.val % 2, 0]
    ∧ win0_1.index t = ![t.val % 2, 0]
    ∧ win0_2.index t = ![t.val / 2, 0, 0] :=
  (by decide +kernel : ∀ t : Fin grid0.N, _)

/-- A sum over all rows is the sum over the first half of them plus the sum over the second half. -/
theorem sum_halves (f : Fin 8256 → EReal) : (∑ x : Fin 8256, f x)
    = (∑ k : Fin 4128, f ⟨k.val, by omega⟩) + ∑ k : Fin 4128, f ⟨4128 + k.val, by omega⟩ :=
  Fin.sum_univ_add (a := 4128) (b := 4128) f

/-- Half of the product summed over the two halves of the rows is the product, summed over all rows, with one factor
    halved. -/
theorem half_sum_halves (f g : Fin 8256 → EReal) :
    Ideal.ofBits .f32 0x3F000000#32 * ((∑ k : Fin 4128, f ⟨k.val, by omega⟩ * g ⟨k.val, by omega⟩)
        + ∑ k : Fin 4128, f ⟨4128 + k.val, by omega⟩ * g ⟨4128 + k.val, by omega⟩)
      = ∑ x : Fin 8256, Ideal.ofBits .f32 0x3F000000#32 * g x * f x := by
  rw [← sum_halves (fun x => f x * g x), ofBits_half, mul_sum_pos _ _ (by norm_num)]
  refine Finset.sum_congr rfl fun x _ => ?_
  rw [mul_assoc, mul_comm (f x)]

/-- The two partial products, of the block before and the block at an odd grid point, add up to the reference. -/
theorem point (c : Dev nD) (t s : Fin cfg0.N) (ht : t.val % 2 = 1) (hs : s.val = t.val - 1) (y) :
    k0_pay4 (k0_pay3 (iblk m c 0 t) (iblk m c 1 t) (k0_pay2 (iblk m c 0 s) (iblk m c 1 s))) y
      = REF (m ((c : Thread nD τ).loc main_arg0)) (m ((c : Thread nD τ).loc main_arg1))
        (((cfg0.win 2).blk t).view.emb y) := by
  pointwise [k0_pay1, k0_pay2, k0_pay3, k0_pay4, REF]
  rw [EReal.mul_comm]
  refine Eq.trans (congrArg (fun z : EReal => _ * z) (congrArg₂ (fun a b : EReal => a + b)
    (Finset.sum_congr rfl fun k _ => ?_) (Finset.sum_congr rfl fun k _ => ?_)))
    ((half_sum_halves (fun x => m ((c : Thread nD τ).loc main_arg1) (ix3 ((((cfg0.win 2).blk t).view.emb y) 0) x ((((cfg0.win 2).blk t).view.emb y) 1)))
      (fun x => m ((c : Thread nD τ).loc main_arg0) (ix2 x ((((cfg0.win 2).blk t).view.emb y) 2)))))
  · congr 1
    · blk_point [iblk, V, idx s, idx t]
    · blk_point [iblk, V, idx s, idx t]
  · congr 1
    · blk_point [iblk, V, idx t]
    · blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp; rw [after0_2]
  rw [outsAt0_B m c t (by omega) hf' hf']; dsimp only
  rw [outsAt0_A m c ⟨t.val - 1, by have := t.isLt; omega⟩ (by dsimp only; omega) (by dsimp only; omega) (by dsimp only; omega)]
  dsimp only
  frame_out
  rw [read_unread_whole]
  exact point m c t _ hf' rfl y

end Cert.Kernel2Ideal.Val

end
-- ==== Proof.ValK3.lean ====
/- The value of the gated feed-forward's up-projection weight gradient: the product accumulated over the two row blocks
   is the reference's whole product. -/
module

public import proofs.«01_k».proof.Proof.Gen.Kernel3Ideal.Frame
public import proofs.«01_k».proof.Proof.Gen.Reference3Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Val

open Cert.Kernel3Ideal Cert.Kernel3Ideal.Gen

variable (m : (ℓ : Loc nD τ sig) → Buf (Elt Ideal) ℓ)

/-- The reference's result as a term of its two arguments. -/
abbrev REF (a0 : FVec Ideal Cert.Reference3Ideal.S4x8256x704 .bf16) (a1 : FVec Ideal Cert.Reference3Ideal.S8256x1024 .f32) :
    FVec Ideal Cert.Reference3Ideal.S4x704x1024 .f32 :=
  shapeCast _ (transpose Cert.Reference3Ideal.S2816x1024 [1, 0] (transpose Cert.Reference3Ideal.S1024x2816 [1, 0] (Host.dotGeneral Cert.Reference3Ideal.dot_S8256x2816_S8256x1024_S2816x1024_0_0_1_1_n_n none (shapeCast _ (transpose Cert.Reference3Ideal.S8256x4x704 [1, 0, 2] (extf .f32 a0 Cert.Reference3Ideal.Gen.bitsLt_bf16_f32) Cert.Reference3Ideal.Gen.transposes_S4x8256x704_S8256x4x704_1_0_2) Cert.Reference3Ideal.Gen.shapeCasts_S8256x4x704_S8256x2816) a1) Cert.Reference3Ideal.Gen.transposes_S2816x1024_S1024x2816_1_0) Cert.Reference3Ideal.Gen.transposes_S1024x2816_S2816x1024_1_0) Cert.Reference3Ideal.Gen.shapeCasts_S2816x1024_S4x704x1024

/-- Which block each window stages at each grid point. -/
theorem idx : ∀ t : Fin cfg0.N, win0_0.index t = ![t.val / 2, t.val % 2, 0]
    ∧ win0_1.index t = ![t.val % 2, 0]
    ∧ win0_2.index t = ![t.val / 2, 0, 0] :=
  (by decide +kernel : ∀ t : Fin grid0.N, _)

/-- A sum over all rows is the sum over the first half of them plus the sum over the second half. -/
theorem sum_halves (f : Fin 8256 → EReal) : (∑ x : Fin 8256, f x)
    = (∑ k : Fin 4128, f ⟨k.val, by omega⟩) + ∑ k : Fin 4128, f ⟨4128 + k.val, by omega⟩ :=
  Fin.sum_univ_add (a := 4128) (b := 4128) f

/-- The two partial products, of the block before and the block at an odd grid point, add up to the reference. -/
theorem point (c : Dev nD) (t s : Fin cfg0.N) (ht : t.val % 2 = 1) (hs : s.val = t.val - 1) (y) :
    k0_pay4 (k0_pay3 (iblk m c 0 t) (iblk m c 1 t) (k0_pay2 (iblk m c 0 s) (iblk m c 1 s))) y
      = REF (m ((c : Thread nD τ).loc main_arg0)) (m ((c : Thread nD τ).loc main_arg1))
        (((cfg0.win 2).blk t).view.emb y) := by
  pointwise [k0_pay1, k0_pay2, k0_pay3, k0_pay4, REF]
  refine Eq.trans (congrArg₂ (fun a b : EReal => a + b) (Finset.sum_congr rfl fun k _ => ?_)
    (Finset.sum_congr rfl fun k _ => ?_)) (sum_halves _).symm
  · congr 1
    · blk_point [iblk, V, idx s, idx t]
    · blk_point [iblk, V, idx s, idx t]
  · congr 1
    · blk_point [iblk, V, idx t]
    · blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp; rw [after0_2]
  rw [outsAt0_B m c t (by omega) hf' hf']; dsimp only
  rw [outsAt0_A m c ⟨t.val - 1, by have := t.isLt; omega⟩ (by dsimp only; omega) (by dsimp only; omega) (by dsimp only; omega)]
  dsimp only
  frame_out
  rw [read_unread_whole]
  exact point m c t _ hf' rfl y

end Cert.Kernel3Ideal.Val

end
-- ==== Proof.ValK4Base.lean ====
/- The gradient through the gated merge: the blocks staged, and the quantities each grid point computes first. -/
module

public import proofs.«01_k».proof.Proof.Gen.Kernel4Ideal.Frame
public import proofs.«01_k».proof.Proof.Gen.Reference4Ideal
public import proofs.«01_k».proof.Proof.Scalar
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Val

open Cert.Kernel4Ideal Cert.Kernel4Ideal.Gen Cert.Scalar

variable (m : (ℓ : Loc nD τ sig) → Buf (Elt Ideal) ℓ)

/-- The gradient of the attention output, as the reference's term of its arguments. -/
abbrev REF_v38 (a0 : FVec Ideal Cert.Reference4Ideal.S8256x1024 .f32) (a1 : FVec Ideal Cert.Reference4Ideal.S1024x1024 .f32) (a2 : FVec Ideal Cert.Reference4Ideal.S8256x2048 .f32) :
    FVec Ideal Cert.Reference4Ideal.S8256x1024 .f32 :=
  mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 0] a2 Cert.Reference4Ideal.Gen.slices_S8256x2048_S8256x1024_0_0))))) (Host.dotGeneral Cert.Reference4Ideal.dot_S8256x1024_S1024x1024_S8256x1024_1_1_0_0_n_n none a0 a1)

/-- The gradient of the attention gate, as the reference's term of its arguments. -/
abbrev REF_v44 (a0 : FVec Ideal Cert.Reference4Ideal.S8256x1024 .f32) (a1 : FVec Ideal Cert.Reference4Ideal.S1024x1024 .f32) (a2 : FVec Ideal Cert.Reference4Ideal.S8256x2048 .f32) (a3 : FVec Ideal Cert.Reference4Ideal.S8256x1024 .f32) :
    FVec Ideal Cert.Reference4Ideal.S8256x1024 .bf16 :=
  truncf .bf16 (mulf (mulf (Host.dotGeneral Cert.Reference4Ideal.dot_S8256x1024_S1024x1024_S8256x1024_1_1_0_0_n_n none a0 a1) a3) (mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 0] a2 Cert.Reference4Ideal.Gen.slices_S8256x2048_S8256x1024_0_0))))) (subf (broadcastInDim Cert.Reference4Ideal.S8256x1024 ![] Cert.Reference4Ideal.Gen.bcast_S_S8256x1024 (constant Cert.Reference4Ideal.S_ .f32 0x3F800000#32)) (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 0] a2 Cert.Reference4Ideal.Gen.slices_S8256x2048_S8256x1024_0_0)))))))) Cert.Reference4Ideal.Gen.bitsLt_bf16_f32

/-- The gradient of the state-space gate, as the reference's term of its arguments. -/
abbrev REF_v45 (a0 : FVec Ideal Cert.Reference4Ideal.S8256x1024 .f32) (a1 : FVec Ideal Cert.Reference4Ideal.S1024x1024 .f32) (a2 : FVec Ideal Cert.Reference4Ideal.S8256x2048 .f32) (a4 : FVec Ideal Cert.Reference4Ideal.S8256x1024 .f32) (a5 : FVec Ideal Cert.Reference4Ideal.S8256x1024 .f32) :
    FVec Ideal Cert.Reference4Ideal.S8256x1024 .bf16 :=
  truncf .bf16 (mulf (mulf (Host.dotGeneral Cert.Reference4Ideal.dot_S8256x1024_S1024x1024_S8256x1024_1_1_0_0_n_n none a0 a1) (mulf a4 (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf a5)))))) (mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 1024] a2 Cert.Reference4Ideal.Gen.slices_S8256x2048_S8256x1024_0_1024))))) (subf (broadcastInDim Cert.Reference4Ideal.S8256x1024 ![] Cert.Reference4Ideal.Gen.bcast_S_S8256x1024 (constant Cert.Reference4Ideal.S_ .f32 0x3F800000#32)) (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 1024] a2 Cert.Reference4Ideal.Gen.slices_S8256x2048_S8256x1024_0_1024)))))))) Cert.Reference4Ideal.Gen.bitsLt_bf16_f32

/-- The gradient of the linear unit's value half, as the reference's term of its arguments. -/
abbrev REF_v46 (a0 : FVec Ideal Cert.Reference4Ideal.S8256x1024 .f32) (a1 : FVec Ideal Cert.Reference4Ideal.S1024x1024 .f32) (a2 : FVec Ideal Cert.Reference4Ideal.S8256x2048 .f32) (a5 : FVec Ideal Cert.Reference4Ideal.S8256x1024 .f32) :
    FVec Ideal Cert.Reference4Ideal.S8256x1024 .bf16 :=
  truncf .bf16 (mulf (mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 1024] a2 Cert.Reference4Ideal.Gen.slices_S8256x2048_S8256x1024_0_1024))))) (Host.dotGeneral Cert.Reference4Ideal.dot_S8256x1024_S1024x1024_S8256x1024_1_1_0_0_n_n none a0 a1)) (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf a5))))) Cert.Reference4Ideal.Gen.bitsLt_bf16_f32

/-- The gradient of the linear unit's gate half, as the reference's term of its arguments. -/
abbrev REF_v47 (a0 : FVec Ideal Cert.Reference4Ideal.S8256x1024 .f32) (a1 : FVec Ideal Cert.Reference4Ideal.S1024x1024 .f32) (a2 : FVec Ideal Cert.Reference4Ideal.S8256x2048 .f32) (a4 : FVec Ideal Cert.Reference4Ideal.S8256x1024 .f32) (a5 : FVec Ideal Cert.Reference4Ideal.S8256x1024 .f32) :
    FVec Ideal Cert.Reference4Ideal.S8256x1024 .bf16 :=
  truncf .bf16 (mulf (mulf a4 (mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf (extractStridedSlice Cert.Reference4Ideal.S8256x1024 ![0, 1024] a2 Cert.Reference4Ideal.Gen.slices_S8256x2048_S8256x1024_0_1024))))) (Host.dotGeneral Cert.Reference4Ideal.dot_S8256x1024_S1024x1024_S8256x1024_1_1_0_0_n_n none a0 a1))) (mulf (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf a5)))) (subf (broadcastInDim Cert.Reference4Ideal.S8256x1024 ![] Cert.Reference4Ideal.Gen.bcast_S_S8256x1024 (constant Cert.Reference4Ideal.S_ .f32 0x3F800000#32)) (Host.divf (broadcastInDim Cert.Reference4Ideal.S8256x1024 ![] Cert.Reference4Ideal.Gen.bcast_S_S8256x1024 (constant Cert.Reference4Ideal.S_ .f32 0x3F800000#32)) (addf (broadcastInDim Cert.Reference4Ideal.S8256x1024 ![] Cert.Reference4Ideal.Gen.bcast_S_S8256x1024 (constant Cert.Reference4Ideal.S_ .f32 0x3F800000#32)) (Host.exp (Host.negf a5))))))) Cert.Reference4Ideal.Gen.bitsLt_bf16_f32

/-- The reference's gradient of the merged rows. -/
abbrev REF_d (a0 : FVec Ideal Cert.Reference4Ideal.S8256x1024 .f32) (a1 : FVec Ideal Cert.Reference4Ideal.S1024x1024 .f32) : FVec Ideal Cert.Reference4Ideal.S8256x1024 .f32 :=
  Host.dotGeneral Cert.Reference4Ideal.dot_S8256x1024_S1024x1024_S8256x1024_1_1_0_0_n_n none a0 a1

/-- Which block each window stages at each grid point. -/
theorem idx : ∀ t : Fin cfg0.N, win0_0.index t = ![t.val / 2, 0]
    ∧ win0_1.index t = ![t.val % 2, 0, 0]
    ∧ win0_2.index t = ![t.val / 2, t.val % 2]
    ∧ win0_3.index t = ![t.val / 2, 2 + (t.val % 2)]
    ∧ win0_4.index t = ![t.val / 2, t.val % 2]
    ∧ win0_5.index t = ![t.val / 2, t.val % 2]
    ∧ win0_6.index t = ![t.val / 2, t.val % 2]
    ∧ win0_7.index t = ![t.val / 2, t.val % 2]
    ∧ win0_8.index t = ![t.val / 2, t.val % 2]
    ∧ win0_9.index t = ![t.val / 2, t.val % 2]
    ∧ win0_10.index t = ![t.val / 2, t.val % 2]
    ∧ win0_11.index t = ![t.val / 2, t.val % 2] :=
  (by decide +kernel : ∀ t : Fin grid0.N, _)

/-- The product with the output projection, a slot of columns at a time. -/
theorem d_point (c : Dev nD) (t : Fin cfg0.N) (y) :
    k0_pay11 (iblk m c 0 t) (iblk m c 1 t) (iblk m c 2 t) (iblk m c 3 t) (iblk m c 4 t) (iblk m c 5 t) (iblk m c 6 t) y
      = REF_d (m ((c : Thread nD τ).loc main_arg0)) (m ((c : Thread nD τ).loc main_arg1))
        (((cfg0.win 7).blk t).view.emb y) := by
  pointwise [k0_pay7, k0_pay11, REF_d]
  split
  all_goals
    refine Finset.sum_congr rfl fun k _ => ?_
    congr 1
    · blk_point [iblk, V, idx t]
    · blk_point [iblk, V, idx t]

/-- The attention gate at a grid point and block index. -/
theorem gate_attn (c : Dev nD) (t : Fin cfg0.N) (y : S688x512.Idx) (j : S8256x1024.Idx)
    (hj : j = (((View.whole main_v3_0).slice ((win0 7).rect t)).emb y)) :
    k0_pay12 (iblk m c 0 t) (iblk m c 1 t) (iblk m c 2 t) (iblk m c 3 t) (iblk m c 4 t) (iblk m c 5 t) (iblk m c 6 t) y = Ideal.logistic (m ((c : Thread nD τ).loc main_arg2) (ix2 (j 0) ⟨(j 1).val, lt_trans (j 1).isLt (by decide)⟩)) := by
  subst hj
  pointwise [k0_pay12, k0_pay8]
  rw [sigmoid]
  congr 1
  blk_point [iblk, V, idx t]

/-- The state-space gate at a grid point and block index. -/
theorem gate_ssm (c : Dev nD) (t : Fin cfg0.N) (y : S688x512.Idx) (j : S8256x1024.Idx)
    (hj : j = (((View.whole main_v3_0).slice ((win0 7).rect t)).emb y)) :
    k0_pay13 (iblk m c 0 t) (iblk m c 1 t) (iblk m c 2 t) (iblk m c 3 t) (iblk m c 4 t) (iblk m c 5 t) (iblk m c 6 t) y = Ideal.logistic (m ((c : Thread nD τ).loc main_arg2) (ix2 (j 0) ⟨1024 + (j 1).val, Nat.add_lt_add_left (j 1).isLt 1024⟩)) := by
  subst hj
  pointwise [k0_pay13, k0_pay9]
  rw [sigmoid]
  congr 1
  blk_point [iblk, V, idx t]

/-- The linear unit's gate at a grid point and block index. -/
theorem gate_glu (c : Dev nD) (t : Fin cfg0.N) (y : S688x512.Idx) (j : S8256x1024.Idx)
    (hj : j = (((View.whole main_v3_0).slice ((win0 7).rect t)).emb y)) :
    k0_pay14 (iblk m c 0 t) (iblk m c 1 t) (iblk m c 2 t) (iblk m c 3 t) (iblk m c 4 t) (iblk m c 5 t) (iblk m c 6 t) y = Ideal.logistic (m ((c : Thread nD τ).loc main_arg5) j) := by
  subst hj
  pointwise [k0_pay14, k0_pay10]
  rw [sigmoid]
  congr 1

/-- The attention output's block. -/
theorem attn_at (c : Dev nD) (t : Fin cfg0.N) (y : S688x512.Idx) (j : S8256x1024.Idx)
    (hj : j = (((View.whole main_v3_0).slice ((win0 7).rect t)).emb y)) :
    iblk m c 4 t y = m ((c : Thread nD τ).loc main_arg3) j := by
  subst hj
  blk_point [iblk, V, idx t]

/-- The linear unit's value half, its block. -/
theorem ga_at (c : Dev nD) (t : Fin cfg0.N) (y : S688x512.Idx) (j : S8256x1024.Idx)
    (hj : j = (((View.whole main_v3_0).slice ((win0 7).rect t)).emb y)) :
    iblk m c 5 t y = m ((c : Thread nD τ).loc main_arg4) j := by
  subst hj
  blk_point [iblk, V, idx t]

/-- The gradient of the merged rows at a grid point and block index. -/
theorem d_at (c : Dev nD) (t : Fin cfg0.N) (y : S688x512.Idx) (j : S8256x1024.Idx)
    (hj : j = (((View.whole main_v3_0).slice ((win0 7).rect t)).emb y)) :
    k0_pay11 (iblk m c 0 t) (iblk m c 1 t) (iblk m c 2 t) (iblk m c 3 t) (iblk m c 4 t) (iblk m c 5 t) (iblk m c 6 t) y
      = ∑ k : Fin 1024, HMul.hMul (α := EReal) (β := EReal) (γ := EReal) (m ((c : Thread nD τ).loc main_arg0) (ix2 (j 0) k)) (m ((c : Thread nD τ).loc main_arg1) (ix2 (j 1) k)) := by
  have hd := d_point m c t y
  pointwise [REF_d] at hd
  subst hj
  exact hd

end Cert.Kernel4Ideal.Val

end
-- ==== Proof.ValK4.lean ====
/- The gradient through the gated merge: each result array after the run is the reference's. -/
module

public import proofs.«01_k».proof.Proof.ValK4Base
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Val

open Cert.Kernel4Ideal Cert.Kernel4Ideal.Gen Cert.Scalar

variable (m : (ℓ : Loc nD τ sig) → Buf (Elt Ideal) ℓ)

/-- The gradient of the attention output, at every grid point and block index. -/
theorem point_7 (c : Dev nD) (t : Fin cfg0.N) (y) :
    k0_pay1 (k0_pay11 (iblk m c 0 t) (iblk m c 1 t) (iblk m c 2 t) (iblk m c 3 t) (iblk m c 4 t) (iblk m c 5 t) (iblk m c 6 t)) (k0_pay12 (iblk m c 0 t) (iblk m c 1 t) (iblk m c 2 t) (iblk m c 3 t) (iblk m c 4 t) (iblk m c 5 t) (iblk m c 6 t)) y
      = REF_v38 (m ((c : Thread nD τ).loc main_arg0)) (m ((c : Thread nD τ).loc main_arg1)) (m ((c : Thread nD τ).loc main_arg2))
        (((cfg0.win 7).blk t).view.emb y) := by
  pointwise [k0_pay1, k0_pay4, REF_v38]
  simp only [div_exp]
  generalize hj : ((View.whole main_v3_0).slice ((win0 7).rect t)).emb y = j
  have hj' : j = (((View.whole main_v3_0).slice ((win0 7).rect t)).emb y) := hj.symm
  rw [d_at m c t y j hj', gate_attn m c t y j hj']
  ac_rfl

/-- The gradient of the attention output: the result array after the run. -/
theorem final_7 (c : Dev nD) : (dats m 0 c).arrAt 7 (cfgs 0).N = REF_v38 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

/-- The gradient of the attention gate, at every grid point and block index. -/
theorem point_8 (c : Dev nD) (t : Fin cfg0.N) (y) :
    k0_pay2 (k0_pay11 (iblk m c 0 t) (iblk m c 1 t) (iblk m c 2 t) (iblk m c 3 t) (iblk m c 4 t) (iblk m c 5 t) (iblk m c 6 t)) (k0_pay12 (iblk m c 0 t) (iblk m c 1 t) (iblk m c 2 t) (iblk m c 3 t) (iblk m c 4 t) (iblk m c 5 t) (iblk m c 6 t)) (iblk m c 4 t) y
      = REF_v44 (m ((c : Thread nD τ).loc main_arg0)) (m ((c : Thread nD τ).loc main_arg1)) (m ((c : Thread nD τ).loc main_arg2)) (m ((c : Thread nD τ).loc main_arg3))
        (((cfg0.win 8).blk t).view.emb y) := by
  pointwise [k0_pay2, k0_pay4, REF_v44]
  simp only [div_exp]
  generalize hj : ((View.whole main_v3_1).slice ((win0 8).rect t)).emb y = j
  have hj' : j = (((View.whole main_v3_0).slice ((win0 7).rect t)).emb y) := hj.symm
  rw [d_at m c t y j hj', gate_attn m c t y j hj', attn_at m c t y j hj']

/-- The gradient of the attention gate: the result array after the run. -/
theorem final_8 (c : Dev nD) : (dats m 0 c).arrAt 8 (cfgs 0).N = REF_v44 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]; frame_out
  exact point_8 m c t y

/-- The gradient of the state-space gate, at every grid point and block index. -/
theorem point_9 (c : Dev nD) (t : Fin cfg0.N) (y) :
    k0_pay3 (k0_pay11 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t)) (k0_pay14 (iblk m c 0 t) (iblk m c 1 t) (iblk m c 2 t) (iblk m c 3 t) (iblk m c 4 t) (iblk m c 5 t) (iblk m c 6 t)) (iblk m c 5 t) y
      = REF_v45 (m ((c : Thread nD τ).loc main_arg0)) (m ((c : Thread nD τ).loc main_arg1)) (m ((c : Thread nD τ).loc main_arg2)) (m ((c : Thread nD τ).loc main_arg4)) (m ((c : Thread nD τ).loc main_arg5))
        (((cfg0.win 9).blk t).view.emb y) := by
  pointwise [k0_pay3, k0_pay4, REF_v45]
  simp only [div_exp]
  generalize hj : ((View.whole main_v3_2).slice ((win0 9).rect t)).emb y = j
  have hj' : j = (((View.whole main_v3_0).slice ((win0 7).rect t)).emb y) := hj.symm
  rw [d_at m c t y j hj', gate_ssm m c t y j hj', gate_glu m c t y j hj', ga_at m c t y j hj']

/-- The gradient of the state-space gate: the result array after the run. -/
theorem final_9 (c : Dev nD) : (dats m 0 c).arrAt 9 (cfgs 0).N = REF_v45 (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 9 _ (by decide +kernel) fun t hf y => ?_
  blk_simp; rw [after0_9]; frame_out
  exact point_9 m c t y

/-- The gradient of the linear unit's value half, at every grid point and block index. -/
theorem point_10 (c : Dev nD) (t : Fin cfg0.N) (y) :
    k0_pay5 (k0_pay11 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t)) (k0_pay14 (iblk m c 0 t) (iblk m c 1 t) (iblk m c 2 t) (iblk m c 3 t) (iblk m c 4 t) (iblk m c 5 t) (iblk m c 6 t)) y
      = REF_v46 (m ((c : Thread nD τ).loc main_arg0)) (m ((c : Thread nD τ).loc main_arg1)) (m ((c : Thread nD τ).loc main_arg2)) (m ((c : Thread nD τ).loc main_arg5))
        (((cfg0.win 10).blk t).view.emb y) := by
  pointwise [k0_pay5, k0_pay4, REF_v46]
  simp only [div_exp]
  generalize hj : ((View.whole main_v3_3).slice ((win0 10).rect t)).emb y = j
  have hj' : j = (((View.whole main_v3_0).slice ((win0 7).rect t)).emb y) := hj.symm
  rw [d_at m c t y j hj', gate_ssm m c t y j hj', gate_glu m c t y j hj']
  ac_rfl

/-- The gradient of the linear unit's value half: the result array after the run. -/
theorem final_10 (c : Dev nD) : (dats m 0 c).arrAt 10 (cfgs 0).N = REF_v46 (m ((c : Thread nD τ).loc main_arg0)) (m ((c : Thread nD τ).loc main_arg1)) (m ((c : Thread nD τ).loc main_arg2)) (m ((c : Thread nD τ).loc main_arg5)) := by
  refine (dats m 0 c).arrAt_eq_of_covers 10 _ (by decide +kernel) fun t hf y => ?_
  blk_simp; rw [after0_10]; frame_out
  exact point_10 m c t y

/-- The gradient of the linear unit's gate half, at every grid point and block index. -/
theorem point_11 (c : Dev nD) (t : Fin cfg0.N) (y) :
    k0_pay6 (k0_pay11 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t)) (k0_pay14 (iblk m c 0 t) (iblk m c 1 t) (iblk m c 2 t) (iblk m c 3 t) (iblk m c 4 t) (iblk m c 5 t) (iblk m c 6 t)) (iblk m c 5 t) y
      = REF_v47 (m ((c : Thread nD τ).loc main_arg0)) (m ((c : Thread nD τ).loc main_arg1)) (m ((c : Thread nD τ).loc main_arg2)) (m ((c : Thread nD τ).loc main_arg4)) (m ((c : Thread nD τ).loc main_arg5))
        (((cfg0.win 11).blk t).view.emb y) := by
  pointwise [k0_pay6, k0_pay4, REF_v47]
  simp only [div_exp]
  generalize hj : ((View.whole main_v3_4).slice ((win0 11).rect t)).emb y = j
  have hj' : j = (((View.whole main_v3_0).slice ((win0 7).rect t)).emb y) := hj.symm
  rw [d_at m c t y j hj', gate_ssm m c t y j hj', gate_glu m c t y j hj', ga_at m c t y j hj']
  ac_rfl

/-- The gradient of the linear unit's gate half: the result array after the run. -/
theorem final_11 (c : Dev nD) : (dats m 0 c).arrAt 11 (cfgs 0).N = REF_v47 (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp; rw [after0_11]; frame_out
  exact point_11 m c t y

end Cert.Kernel4Ideal.Val

end
-- ==== Proof.ValK5.lean ====
/- The value of the input projection's weight gradient: the product accumulated over the two row blocks is the
   reference's whole product. -/
module

public import proofs.«01_k».proof.Proof.Gen.Kernel5Ideal.Frame
public import proofs.«01_k».proof.Proof.Gen.Reference5Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Val

open Cert.Kernel5Ideal Cert.Kernel5Ideal.Gen

variable (m : (ℓ : Loc nD τ sig) → Buf (Elt Ideal) ℓ)

/-- The reference's result as a term of its two arguments. -/
abbrev REF (a0 : FVec Ideal Cert.Reference5Ideal.S8256x1024 .f32) (a1 : FVec Ideal Cert.Reference5Ideal.S8256x1024 .bf16) :
    FVec Ideal Cert.Reference5Ideal.S1024x1024 .f32 :=
  transpose Cert.Reference5Ideal.S1024x1024 [1, 0]
    (Host.dotGeneral Cert.Reference5Ideal.dot_S8256x1024_S8256x1024_S1024x1024_0_0_1_1_n_n none
      (extf .f32 a1 Cert.Reference5Ideal.Gen.bitsLt_bf16_f32) a0)
    Cert.Reference5Ideal.Gen.transposes_S1024x1024_S1024x1024_1_0

/-- Which block each window stages at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The two partial products, of the block before and the block at an odd grid point, add up to the reference. -/
theorem point (c : Dev nD) (t s : Fin cfg0.N) (ht : t.val % 2 = 1) (hs : s.val = t.val - 1) (y) :
    k0_pay3 (iblk m c 0 t) (iblk m c 1 t) (k0_pay2 (iblk m c 0 s) (iblk m c 1 s)) y
      = REF (m ((c : Thread nD τ).loc main_arg0)) (m ((c : Thread nD τ).loc main_arg1))
        (((cfg0.win 2).blk t).view.emb y) := by
  pointwise [k0_pay1, k0_pay2, k0_pay3, REF]
  have h2 : ∀ f : Fin 8256 → EReal, (∑ x : Fin 8256, f x)
      = (∑ k : Fin 4128, f ⟨k.val, by omega⟩) + ∑ k : Fin 4128, f ⟨4128 + k.val, by omega⟩ := fun f =>
    Fin.sum_univ_add (a := 4128) (b := 4128) f
  refine Eq.trans (congrArg₂ (fun a b : EReal => a + b) (Finset.sum_congr rfl fun k _ => ?_) (Finset.sum_congr rfl fun k _ => ?_)) (h2 _).symm
  · rw [EReal.mul_comm]
    congr 1
    · blk_point [iblk, V, idx s, idx t]
    · blk_point [iblk, V, idx s, idx t]
  · rw [EReal.mul_comm]
    congr 1
    · blk_point [iblk, V, idx t]
    · blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp; rw [after0_2]
  rw [outsAt0_B m c t (by omega) hf' hf']; dsimp only
  rw [outsAt0_A m c ⟨t.val - 1, by have := t.isLt; omega⟩ (by dsimp only; omega) (by dsimp only; omega) (by dsimp only; omega)]
  dsimp only
  frame_out
  rw [read_unread_whole]
  exact point m c t _ hf' rfl y

end Cert.Kernel5Ideal.Val

end
-- ==== Proof.ValK6.lean ====
/- The value of the output projection's weight gradient: the product accumulated over the two row blocks
   is the reference's whole product. -/
module

public import proofs.«01_k».proof.Proof.Gen.Kernel6Ideal.Frame
public import proofs.«01_k».proof.Proof.Gen.Reference6Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Val

open Cert.Kernel6Ideal Cert.Kernel6Ideal.Gen

variable (m : (ℓ : Loc nD τ sig) → Buf (Elt Ideal) ℓ)

/-- The reference's result as a term of its two arguments. -/
abbrev REF (a0 : FVec Ideal Cert.Reference6Ideal.S8256x1024 .bf16) (a1 : FVec Ideal Cert.Reference6Ideal.S8256x1024 .f32) :
    FVec Ideal Cert.Reference6Ideal.S4x256x1024 .f32 :=
  shapeCast _ (transpose Cert.Reference6Ideal.S1024x1024 [1, 0] (Host.dotGeneral Cert.Reference6Ideal.dot_S8256x1024_S8256x1024_S1024x1024_0_0_1_1_n_n none a1 (extf .f32 a0 Cert.Reference6Ideal.Gen.bitsLt_bf16_f32)) Cert.Reference6Ideal.Gen.transposes_S1024x1024_S1024x1024_1_0) Cert.Reference6Ideal.Gen.shapeCasts_S1024x1024_S4x256x1024

/-- Which block each window stages at each grid point. -/
theorem idx : ∀ t : Fin cfg0.N, win0_0.index t = ![t.val % 2, t.val / 2]
    ∧ win0_1.index t = ![t.val % 2, 0]
    ∧ win0_2.index t = ![t.val / 2, 0, 0] :=
  (by decide +kernel : ∀ t : Fin grid0.N, _)

/-- A sum over all rows is the sum over the first half of them plus the sum over the second half. -/
theorem sum_halves (f : Fin 8256 → EReal) : (∑ x : Fin 8256, f x)
    = (∑ k : Fin 4128, f ⟨k.val, by omega⟩) + ∑ k : Fin 4128, f ⟨4128 + k.val, by omega⟩ :=
  Fin.sum_univ_add (a := 4128) (b := 4128) f

/-- The two partial products, of the block before and the block at an odd grid point, add up to the reference. -/
theorem point (c : Dev nD) (t s : Fin cfg0.N) (ht : t.val % 2 = 1) (hs : s.val = t.val - 1) (y) :
    k0_pay4 (k0_pay3 (iblk m c 0 t) (iblk m c 1 t) (k0_pay2 (iblk m c 0 s) (iblk m c 1 s))) y
      = REF (m ((c : Thread nD τ).loc main_arg0)) (m ((c : Thread nD τ).loc main_arg1))
        (((cfg0.win 2).blk t).view.emb y) := by
  pointwise [k0_pay1, k0_pay2, k0_pay3, k0_pay4, REF]
  refine Eq.trans (congrArg₂ (fun a b : EReal => a + b) (Finset.sum_congr rfl fun k _ => ?_)
    (Finset.sum_congr rfl fun k _ => ?_)) (sum_halves _).symm
  · rw [EReal.mul_comm]
    congr 1
    · blk_point [iblk, V, idx s, idx t]
    · blk_point [iblk, V, idx s, idx t]
  · rw [EReal.mul_comm]
    congr 1
    · blk_point [iblk, V, idx t]
    · blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp; rw [after0_2]
  rw [outsAt0_B m c t (by omega) hf' hf']; dsimp only
  rw [outsAt0_A m c ⟨t.val - 1, by have := t.isLt; omega⟩ (by dsimp only; omega) (by dsimp only; omega) (by dsimp only; omega)]
  dsimp only
  frame_out
  rw [read_unread_whole]
  exact point m c t _ hf' rfl y

end Cert.Kernel6Ideal.Val

end
-- ==== Proof.ValK7.lean ====
/- The value of the gated linear unit's weight gradient: the product accumulated over the two row blocks
   is the reference's whole product. -/
module

public import proofs.«01_k».proof.Proof.Gen.Kernel7Ideal.Frame
public import proofs.«01_k».proof.Proof.Gen.Reference7Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Val

open Cert.Kernel7Ideal Cert.Kernel7Ideal.Gen

variable (m : (ℓ : Loc nD τ sig) → Buf (Elt Ideal) ℓ)

/-- The reference's result as a term of its two arguments. -/
abbrev REF (a0 : FVec Ideal Cert.Reference7Ideal.S8256x512 .bf16) (a1 : FVec Ideal Cert.Reference7Ideal.S8256x1024 .bf16) :
    FVec Ideal Cert.Reference7Ideal.S4x512x256 .f32 :=
  transpose Cert.Reference7Ideal.S4x512x256 [1, 0, 2] (shapeCast _ (transpose Cert.Reference7Ideal.S512x1024 [1, 0] (Host.dotGeneral Cert.Reference7Ideal.dot_S8256x1024_S8256x512_S1024x512_0_0_1_1_n_n none (extf .f32 a1 Cert.Reference7Ideal.Gen.bitsLt_bf16_f32) (extf .f32 a0 Cert.Reference7Ideal.Gen.bitsLt_bf16_f32)) Cert.Reference7Ideal.Gen.transposes_S1024x512_S512x1024_1_0) Cert.Reference7Ideal.Gen.shapeCasts_S512x1024_S512x4x256) Cert.Reference7Ideal.Gen.transposes_S512x4x256_S4x512x256_1_0_2

/-- Which block each window stages at each grid point. -/
theorem idx : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

/-- A sum over all rows is the sum over the first half of them plus the sum over the second half. -/
theorem sum_halves (f : Fin 8256 → EReal) : (∑ x : Fin 8256, f x)
    = (∑ k : Fin 4128, f ⟨k.val, by omega⟩) + ∑ k : Fin 4128, f ⟨4128 + k.val, by omega⟩ :=
  Fin.sum_univ_add (a := 4128) (b := 4128) f

/-- The two partial products, of the block before and the block at an odd grid point, add up to the reference. -/
theorem point (c : Dev nD) (t s : Fin cfg0.N) (ht : t.val % 2 = 1) (hs : s.val = t.val - 1) (y) :
    k0_pay4 (k0_pay3 (iblk m c 0 t) (iblk m c 1 t) (k0_pay2 (iblk m c 0 s) (iblk m c 1 s))) y
      = REF (m ((c : Thread nD τ).loc main_arg0)) (m ((c : Thread nD τ).loc main_arg1))
        (((cfg0.win 2).blk t).view.emb y) := by
  pointwise [k0_pay1, k0_pay2, k0_pay3, k0_pay4, REF]
  refine Eq.trans (congrArg₂ (fun a b : EReal => a + b) (Finset.sum_congr rfl fun k _ => ?_)
    (Finset.sum_congr rfl fun k _ => ?_)) (sum_halves _).symm
  · rw [EReal.mul_comm]
    congr 1
    · blk_point [iblk, V, idx s, idx t]
    · blk_point [iblk, V, idx s, idx t]
  · rw [EReal.mul_comm]
    congr 1
    · blk_point [iblk, V, idx t]
    · blk_point [iblk, V, idx t]

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hf' := (flush0_2 t).mp hf
  blk_simp; rw [after0_2]
  rw [outsAt0_B m c t (by omega) hf' hf']; dsimp only
  rw [outsAt0_A m c ⟨t.val - 1, by have := t.isLt; omega⟩ (by dsimp only; omega) (by dsimp only; omega) (by dsimp only; omega)]
  dsimp only
  frame_out
  rw [read_unread_whole]
  exact point m c t _ hf' rfl y

end Cert.Kernel7Ideal.Val

end
-- ==== Proof.ValK8.lean ====
/- The value of the gated feed-forward's down projection: four slot products summed are the product over all columns. -/
module

public import proofs.«01_k».proof.Proof.Gen.Kernel8Ideal.Frame
public import proofs.«01_k».proof.Proof.Gen.Reference8Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Val

open Cert.Kernel8Ideal Cert.Kernel8Ideal.Gen

variable (m : (ℓ : Loc nD τ sig) → Buf (Elt Ideal) ℓ)

/-- The reference's result as a term of its three arguments. -/
abbrev REF (a0 : FVec Ideal Cert.Reference8Ideal.S4x8256x704 .bf16) (a1 : FVec Ideal Cert.Reference8Ideal.S2816x1024 .f32) (a2 : FVec Ideal Cert.Reference8Ideal.S8256x1024 .f32) :
    FVec Ideal Cert.Reference8Ideal.S8256x1024 .f32 :=
  addf a2 (mulf (broadcastInDim Cert.Reference8Ideal.S8256x1024 ![] Cert.Reference8Ideal.Gen.bcast_S_S8256x1024 (constant Cert.Reference8Ideal.S_ .f32 0x3F000000#32)) (Host.dotGeneral Cert.Reference8Ideal.dot_S8256x2816_S2816x1024_S8256x1024_1_0_0_1_n_n none (shapeCast _ (transpose Cert.Reference8Ideal.S8256x4x704 [1, 0, 2] (extf .f32 a0 Cert.Reference8Ideal.Gen.bitsLt_bf16_f32) Cert.Reference8Ideal.Gen.transposes_S4x8256x704_S8256x4x704_1_0_2) Cert.Reference8Ideal.Gen.shapeCasts_S8256x4x704_S8256x2816) a1))

/-- Which block each window stages at each grid point. -/
theorem idx : ∀ t : Fin cfg0.N, win0_0.index t = ![0, t.val, 0]
    ∧ win0_1.index t = ![0, 0, 0]
    ∧ win0_2.index t = ![t.val, 0]
    ∧ win0_3.index t = ![t.val, 0] :=
  (by decide +kernel : ∀ t : Fin grid0.N, _)

/-- A sum over all columns is the sum over the four slots of the sums over a slot's columns. -/
theorem sum_quarters (f : Fin 2816 → EReal) : (∑ x : Fin 2816, f x)
    = (∑ k : Fin 704, f ⟨k.val, by omega⟩) + (∑ k : Fin 704, f ⟨704 + k.val, by omega⟩)
      + (∑ k : Fin 704, f ⟨1408 + k.val, by omega⟩) + ∑ k : Fin 704, f ⟨2112 + k.val, by omega⟩ := by
  rw [Fin.sum_univ_add (a := 2112) (b := 704) f,
    Fin.sum_univ_add (a := 1408) (b := 704) (fun i : Fin 2112 => f (Fin.castAdd 704 i)),
    Fin.sum_univ_add (a := 704) (b := 704) (fun i : Fin 1408 => f (Fin.castAdd 704 (Fin.castAdd 704 i)))]
  rfl

/-- The four slot products at a grid point, halved and added to the residual, are the reference there. -/
theorem point (c : Dev nD) (t : Fin cfg0.N) (y) :
    k0_pay1 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) (iblk m c 2 t) y
      = REF (m ((c : Thread nD τ).loc main_arg0)) (m ((c : Thread nD τ).loc main_arg1))
        (m ((c : Thread nD τ).loc main_arg2)) (((cfg0.win 3).blk t).view.emb y) := by
  pointwise [k0_pay1, REF]
  rw [EReal.mul_comm]
  refine Eq.trans (congrArg₂ (fun a b : EReal => a + b) ?_ (congrArg (fun z : EReal => _ * z)
    (congrArg₂ (fun a b : EReal => a + b) (congrArg₂ (fun a b : EReal => a + b) (congrArg₂ (fun a b : EReal => a + b)
      (Finset.sum_congr rfl fun k _ => ?_) (Finset.sum_congr rfl fun k _ => ?_)) (Finset.sum_congr rfl fun k _ => ?_))
      (Finset.sum_congr rfl fun k _ => ?_))))
    (congrArg (fun z : EReal => _ + _ * z) (sum_quarters _).symm)
  · blk_point [iblk, V, idx t]
  all_goals
    congr 1
    · blk_point [iblk, V, idx t]
    · blk_point [iblk, V, idx t]

/-- The result array after the run is the reference's result. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point m c t y

end Cert.Kernel8Ideal.Val

end
-- ==== Proof.ValK9.lean ====
/- The value of the queries: the product's block, scaled, is the reference's. -/
module

public import proofs.«01_k».proof.Proof.Gen.Kernel9Ideal.Frame
public import proofs.«01_k».proof.Proof.Gen.Reference9Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Val

open Cert.Kernel9Ideal Cert.Kernel9Ideal.Gen

variable (m : (ℓ : Loc nD τ sig) → Buf (Elt Ideal) ℓ)

/-- The reference's result as a term of its two arguments. -/
abbrev REF (a0 : FVec Ideal Cert.Reference9Ideal.S8256x1024 .f32) (a1 : FVec Ideal Cert.Reference9Ideal.S4x1024x1024 .f32) : FVec Ideal Cert.Reference9Ideal.S8256x1024 .bf16 :=
  truncf .bf16 (mulf (Host.dotGeneral Cert.Reference9Ideal.dot_S8256x1024_S1024x1024_S8256x1024_1_0_0_1_n_n none a0 (shapeCast _ (extractStridedSlice Cert.Reference9Ideal.S1x1024x1024 ![0, 0, 0] a1 Cert.Reference9Ideal.Gen.slices_S4x1024x1024_S1x1024x1024_0_0_0) Cert.Reference9Ideal.Gen.shapeCasts_S1x1024x1024_S1024x1024)) (broadcastInDim Cert.Reference9Ideal.S8256x1024 ![] Cert.Reference9Ideal.Gen.bcast_S_S8256x1024 (constant Cert.Reference9Ideal.S_ .f32 0x3E000000#32))) Cert.Reference9Ideal.Gen.bitsLt_bf16_f32

/-- Which block each window stages at each grid point. -/
theorem idx : ∀ t : Fin cfg0.N, win0_0.index t = ![t.val, 0]
    ∧ win0_1.index t = ![0, 0, 0]
    ∧ win0_2.index t = ![t.val, 0] :=
  (by decide +kernel : ∀ t : Fin grid0.N, _)

/-- The scaled product at a grid point is the reference there. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  refine congrArg (fun z : EReal => z * _) (Finset.sum_congr rfl fun k _ => ?_)
  congr 1
  · blk_point [iblk, V, idx t]
  · blk_point [iblk, V, idx t]

/-- The result array after the run is the reference's result. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.Val

end
-- ==== Proof.ValK10.lean ====
/- The value of the gates: the two products side by side are the reference's last half of the columns. -/
module

public import proofs.«01_k».proof.Proof.Gen.Kernel10Ideal.Frame
public import proofs.«01_k».proof.Proof.Gen.Reference10Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Val

open Cert.Kernel10Ideal Cert.Kernel10Ideal.Gen

variable (m : (ℓ : Loc nD τ sig) → Buf (Elt Ideal) ℓ)

/-- The reference's result as a term of its two arguments. -/
abbrev REF (a0 : FVec Ideal Cert.Reference10Ideal.S8256x1024 .f32) (a1 : FVec Ideal Cert.Reference10Ideal.S1024x4096 .f32) : FVec Ideal Cert.Reference10Ideal.S8256x2048 .f32 :=
  extractStridedSlice Cert.Reference10Ideal.S8256x2048 ![0, 2048] (Host.dotGeneral Cert.Reference10Ideal.dot_S8256x1024_S1024x4096_S8256x4096_1_0_0_1_n_n none a0 a1) Cert.Reference10Ideal.Gen.slices_S8256x4096_S8256x2048_0_2048

/-- Which block each window stages at each grid point. -/
theorem idx : ∀ t : Fin cfg0.N, win0_0.index t = ![t.val, 0]
    ∧ win0_1.index t = ![1, 0, 0]
    ∧ win0_2.index t = ![t.val, 0] :=
  (by decide +kernel : ∀ t : Fin grid0.N, _)

set_option maxHeartbeats 1600000 in
/-- The side-by-side products at a grid point are the reference there. -/
theorem point (c : Dev nD) (t : Fin cfg0.N) (y) :
    out0_2 (F := Ideal) (iblk m c 0 t) (iblk m c 1 t) y = REF (m ((c : Thread nD τ).loc main_arg0)) (m ((c : Thread nD τ).loc main_arg1)) (((cfg0.win 2).blk t).view.emb y) := by
  unfold out0_2
  canon_tiles x h
  all_goals
    pointwise [k0_pay1, k0_pay2, k0_pay3, REF]
    refine Finset.sum_congr rfl fun k _ => ?_
    congr 1
    · blk_point [iblk, V, idx t, h0, h1]
    · blk_point [iblk, V, idx t, h0, h1]

/-- The result array after the run is the reference's result. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  exact point m c t y

end Cert.Kernel10Ideal.Val

end
-- ==== Proof.ValK11.lean ====
/- The value of the keys, values and state-space inputs: the product's block is the reference's. -/
module

public import proofs.«01_k».proof.Proof.Gen.Kernel11Ideal.Frame
public import proofs.«01_k».proof.Proof.Gen.Reference11Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Val

open Cert.Kernel11Ideal Cert.Kernel11Ideal.Gen

variable (m : (ℓ : Loc nD τ sig) → Buf (Elt Ideal) ℓ)

/-- The reference's result as a term of its two arguments. -/
abbrev REF (a0 : FVec Ideal Cert.Reference11Ideal.S8256x1024 .f32) (a1 : FVec Ideal Cert.Reference11Ideal.S1024x1024 .f32) : FVec Ideal Cert.Reference11Ideal.S8256x1024 .f32 :=
  Host.dotGeneral Cert.Reference11Ideal.dot_S8256x1024_S1024x1024_S8256x1024_1_0_0_1_n_n none a0 a1

/-- Which block each window stages at each grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product at a grid point is the reference there. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF]
  refine Finset.sum_congr rfl fun k _ => ?_
  congr 1
  · blk_point [iblk, V, idx t]
  · blk_point [iblk, V, idx t]

/-- The result array after the run is the reference's result. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel11Ideal.Val

end
-- ==== Proof.ValK12.lean ====
/- The value of a gated linear unit's product: the four products side by side are the reference's. -/
module

public import proofs.«01_k».proof.Proof.Gen.Kernel12Ideal.Frame
public import proofs.«01_k».proof.Proof.Gen.Reference12Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Val

open Cert.Kernel12Ideal Cert.Kernel12Ideal.Gen

variable (m : (ℓ : Loc nD τ sig) → Buf (Elt Ideal) ℓ)

/-- The reference's result as a term of its two arguments. -/
abbrev REF (a0 : FVec Ideal Cert.Reference12Ideal.S8256x512 .bf16) (a1 : FVec Ideal Cert.Reference12Ideal.S512x1024 .f32) : FVec Ideal Cert.Reference12Ideal.S8256x1024 .f32 :=
  Host.dotGeneral Cert.Reference12Ideal.dot_S8256x512_S512x1024_S8256x1024_1_0_0_1_n_n none (extf .f32 a0 Cert.Reference12Ideal.Gen.bitsLt_bf16_f32) a1

/-- Which block each window stages at each grid point. -/
theorem idx : ∀ t : Fin cfg0.N, win0_0.index t = ![t.val, 0]
    ∧ win0_1.index t = ![0, 0, 0]
    ∧ win0_2.index t = ![t.val, 0] :=
  (by decide +kernel : ∀ t : Fin grid0.N, _)

set_option maxHeartbeats 1600000 in
/-- The side-by-side products at a grid point are the reference there. -/
theorem point (c : Dev nD) (t : Fin cfg0.N) (y) :
    out0_2 (F := Ideal) (iblk m c 0 t) (iblk m c 1 t) y = REF (m ((c : Thread nD τ).loc main_arg0)) (m ((c : Thread nD τ).loc main_arg1)) (((cfg0.win 2).blk t).view.emb y) := by
  unfold out0_2
  canon_tiles x h
  all_goals
    pointwise [k0_pay1, k0_pay2, k0_pay3, k0_pay4, REF]
    refine Finset.sum_congr rfl fun k _ => ?_
    congr 1
    · blk_point [iblk, V, idx t, h0, h1]
    · blk_point [iblk, V, idx t, h0, h1]

/-- The result array after the run is the reference's result. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]
  exact point m c t y

end Cert.Kernel12Ideal.Val

end
-- ==== Proof.ValK13.lean ====
/- The value of the output projection: four slot products summed are the product over all columns. -/
module

public import proofs.«01_k».proof.Proof.Gen.Kernel13Ideal.Frame
public import proofs.«01_k».proof.Proof.Gen.Reference13Ideal
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Val

open Cert.Kernel13Ideal Cert.Kernel13Ideal.Gen

variable (m : (ℓ : Loc nD τ sig) → Buf (Elt Ideal) ℓ)

/-- The reference's result as a term of its three arguments. -/
abbrev REF (a0 : FVec Ideal Cert.Reference13Ideal.S8256x1024 .bf16) (a1 : FVec Ideal Cert.Reference13Ideal.S1024x1024 .f32) (a2 : FVec Ideal Cert.Reference13Ideal.S8256x1024 .f32) :
    FVec Ideal Cert.Reference13Ideal.S8256x1024 .f32 :=
  addf a2 (Host.dotGeneral Cert.Reference13Ideal.dot_S8256x1024_S1024x1024_S8256x1024_1_0_0_1_n_n none (extf .f32 a0 Cert.Reference13Ideal.Gen.bitsLt_bf16_f32) a1)

/-- Which block each window stages at each grid point. -/
theorem idx : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

/-- A sum over all columns is the sum over the four slots of the sums over a slot's columns. -/
theorem sum_quarters (f : Fin 1024 → EReal) : (∑ x : Fin 1024, f x)
    = (∑ k : Fin 256, f ⟨k.val, by omega⟩) + (∑ k : Fin 256, f ⟨256 + k.val, by omega⟩)
      + (∑ k : Fin 256, f ⟨512 + k.val, by omega⟩) + ∑ k : Fin 256, f ⟨768 + k.val, by omega⟩ := by
  rw [Fin.sum_univ_add (a := 768) (b := 256) f,
    Fin.sum_univ_add (a := 512) (b := 256) (fun i : Fin 768 => f (Fin.castAdd 256 i)),
    Fin.sum_univ_add (a := 256) (b := 256) (fun i : Fin 512 => f (Fin.castAdd 256 (Fin.castAdd 256 i)))]
  rfl

/-- The four slot products at a grid point, added to the residual, are the reference there. -/
theorem point (c : Dev nD) (t : Fin cfg0.N) (y) :
    k0_pay1 (View.ld (iblk m c 0 t) r0_0) (View.ld (iblk m c 1 t) r0_1) (View.ld (iblk m c 0 t) r0_2)
      (View.ld (iblk m c 1 t) r0_3) (View.ld (iblk m c 0 t) r0_4) (View.ld (iblk m c 1 t) r0_5)
      (View.ld (iblk m c 0 t) r0_6) (View.ld (iblk m c 1 t) r0_7) (iblk m c 2 t) y
      = REF (m ((c : Thread nD τ).loc main_arg0)) (m ((c : Thread nD τ).loc main_arg1)) (m ((c : Thread nD τ).loc main_arg2)) (((cfg0.win 3).blk t).view.emb y) := by
  pointwise [k0_pay1, REF]
  refine Eq.trans (congrArg₂ (fun a b : EReal => a + b) ?_
    (congrArg₂ (fun a b : EReal => a + b) (congrArg₂ (fun a b : EReal => a + b) (congrArg₂ (fun a b : EReal => a + b)
      (Finset.sum_congr rfl fun k _ => ?_) (Finset.sum_congr rfl fun k _ => ?_)) (Finset.sum_congr rfl fun k _ => ?_))
      (Finset.sum_congr rfl fun k _ => ?_)))
    (congrArg (fun z : EReal => _ + z) (sum_quarters _).symm)
  · blk_point [iblk, V, idx t]
  all_goals
    congr 1
    · blk_point [iblk, V, idx t]
    · blk_point [iblk, V, idx t]

/-- The result array after the run is the reference's result. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel13Ideal.Val

end
-- ==== Proof.Norm.lean ====
/- A row's normalisation over the extended reals: the gradient written once, and as the chain rule writes it. -/
module

public import proofs.«01_k».proof.Proof.Scalar

@[expose] public section

noncomputable section

open Idealize.ShloMosaic
open scoped BigOperators

namespace Cert.Norm

/-- The word `0x44800000` is 1024. -/
theorem ofBits_width : Ideal.ofBits .f32 0x44800000#32 = ((1024 : ℝ) : EReal) := by
  simp [Ideal.ofBits, Ideal.ieee, -EReal.coe_mul]; norm_num

/-- The word `0xBF000000` is minus one half. -/
theorem ofBits_neg_half : Ideal.ofBits .f32 0xBF000000#32 = ((-(1 / 2) : ℝ) : EReal) := by
  simp [Ideal.ofBits, Ideal.ieee, -EReal.coe_mul]; norm_num

/-- The normalisation's epsilon is a positive real. -/
theorem ofBits_eps : ∃ e : ℝ, 0 < e ∧ Ideal.ofBits .f32 0x358637BD#32 = (e : EReal) := by
  simp [Ideal.ofBits, Ideal.ieee, -EReal.coe_mul]

/-- A sum of reals is the same sum of extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-- A row's mean square plus epsilon. -/
abbrev meanSq (x : Fin 1024 → EReal) : EReal :=
  Ideal.div (∑ j, x j * x j) (Ideal.ofBits .f32 0x44800000#32) + Ideal.ofBits .f32 0x358637BD#32

/-- The gradient that reaches each entry of the row through the mean square, as the chain rule writes it. -/
abbrev through (x y : Fin 1024 → EReal) : EReal :=
  ∑ _k : Fin 1, Ideal.div ((∑ j, x j * y j) * (Ideal.ofBits .f32 0xBF000000#32 * Ideal.div (Ideal.rsqrt (meanSq x)) (meanSq x)))
    (Ideal.ofBits .f32 0x44800000#32)

/-- Twice a multiple by a real is the multiple by twice that real. -/
theorem mul_twice (S : EReal) (t : ℝ) : S * (t : EReal) + S * (t : EReal) = S * ((t + t : ℝ) : EReal) := by
  rcases le_total 0 t with h | h
  · rw [EReal.coe_add]
    exact (EReal.left_distrib_of_nonneg (EReal.coe_nonneg.2 h) (EReal.coe_nonneg.2 h)).symm
  · rcases h.eq_or_lt with rfl | h
    · simp
    · have h2 : t + t < 0 := by linarith
      induction S using EReal.rec with
      | bot => rw [EReal.bot_mul_coe_of_neg h, EReal.bot_mul_coe_of_neg h2, EReal.top_add_top]
      | top => rw [EReal.top_mul_coe_of_neg h, EReal.top_mul_coe_of_neg h2, EReal.bot_add]
      | coe r => simp only [← EReal.coe_mul, ← EReal.coe_add, mul_add]

/-- A square is not negative. -/
theorem sq_nonneg' (x : EReal) : 0 ≤ x * x := by
  induction x using EReal.rec with
  | bot => simp
  | top => simp
  | coe r => rw [← EReal.coe_mul]; exact EReal.coe_nonneg.2 (mul_self_nonneg r)

/-- A row's mean square plus epsilon is a positive real, the row's entries reals, or it is infinite. -/
theorem meanSq_cases (x : Fin 1024 → EReal) :
    (∃ X : Fin 1024 → ℝ, x = (fun j => (X j : EReal)) ∧ ∃ v : ℝ, 0 < v ∧ meanSq x = (v : EReal)) ∨ meanSq x = ⊤ := by
  obtain ⟨e, he, hE⟩ := ofBits_eps
  have hn : (1024 : ℝ) ≠ 0 := by norm_num
  by_cases h : ∀ k, ∃ r : ℝ, x k = (r : EReal)
  · choose X hX using h
    obtain rfl : x = fun j => (X j : EReal) := funext hX
    refine Or.inl ⟨X, rfl, (∑ j, X j * X j) * (1 / 1024) + e, ?_, ?_⟩
    · have : 0 ≤ ∑ j, X j * X j := Finset.sum_nonneg fun j _ => mul_self_nonneg _
      positivity
    · simp only [meanSq, ofBits_width, hE, Ideal.div_coe hn, ← EReal.coe_mul, ← coe_sum, ← EReal.coe_add]
  · refine Or.inr ?_
    push Not at h
    obtain ⟨k, hk⟩ := h
    have hkk : x k * x k = ⊤ := by
      generalize x k = z at hk ⊢
      induction z using EReal.rec with
      | bot => simp
      | top => simp
      | coe r => exact absurd rfl (hk r)
    have hs : ∑ j, x j * x j = (⊤ : EReal) := by
      have := Finset.single_le_sum (f := fun j => x j * x j) (fun j _ => sq_nonneg' (x j)) (Finset.mem_univ k)
      simp only [hkk] at this
      exact top_le_iff.1 this
    rw [meanSq, hs, ofBits_width, hE, Ideal.div_coe hn, EReal.top_mul_coe_of_pos (by norm_num), EReal.top_add_coe]

/-- Of a row `x` and the gradient `y` of its normalised entries, the gradient of an entry of the row, with the
    common factor outside, is the sum of the three terms of the chain rule. -/
theorem norm_back (x y : Fin 1024 → EReal) (k : Fin 1024) :
    Ideal.rsqrt (meanSq x) * (y k - x k * Ideal.rsqrt (meanSq x)
        * Ideal.div (∑ j, y j * (x j * Ideal.rsqrt (meanSq x))) (Ideal.ofBits .f32 0x44800000#32))
      = y k * Ideal.rsqrt (meanSq x) + x k * through x y + through x y * x k := by
  have hn : (1024 : ℝ) ≠ 0 := by norm_num
  rcases meanSq_cases x with ⟨X, rfl, v, hv, hW⟩ | hW
  · have hr : Ideal.rsqrt (v : EReal) = (((Real.sqrt v)⁻¹ : ℝ) : EReal) := by
      rw [Ideal.rsqrt_coe, if_neg hv.le.not_gt, if_neg hv.ne']
    have hs : 1 / v = (Real.sqrt v)⁻¹ * (Real.sqrt v)⁻¹ := by
      rw [← mul_inv, Real.mul_self_sqrt hv.le, one_div]
    have hpos : 0 ≤ (Real.sqrt v)⁻¹ := by positivity
    simp only [through, hW, hr, ofBits_width, ofBits_neg_half, Ideal.div_coe hn, Ideal.div_coe hv.ne', Finset.univ_unique,
      Finset.sum_singleton, hs]
    generalize (Real.sqrt v)⁻¹ = s at hpos
    have hsum : ∑ j, y j * ((X j : EReal) * (s : EReal)) = (s : EReal) * ∑ j, (X j : EReal) * y j := by
      rw [Cert.Scalar.mul_sum_pos _ _ hpos]
      exact Finset.sum_congr rfl fun j _ => by ac_rfl
    rw [hsum]
    generalize ∑ j, (X j : EReal) * y j = S
    rw [sub_eq_add_neg, EReal.left_distrib_of_nonneg_of_ne_top (EReal.coe_nonneg.2 hpos) (EReal.coe_ne_top _), add_assoc,
      mul_comm (s : EReal) (y k)]
    congr 1
    have h1 : (X k : EReal) * (S * (((-(1 / 2) : ℝ) : EReal) * ((s : EReal) * ((s * s : ℝ) : EReal))) * ((1 / 1024 : ℝ) : EReal))
        = S * ((X k * (-(1 / 2)) * (s * (s * s)) * (1 / 1024) : ℝ) : EReal) := by
      simp only [EReal.coe_mul]; ac_rfl
    have h2 : (s : EReal) * -((X k : EReal) * (s : EReal) * ((s : EReal) * S * ((1 / 1024 : ℝ) : EReal)))
        = S * ((-(X k * (s * (s * s)) * (1 / 1024)) : ℝ) : EReal) := by
      rw [EReal.coe_neg, mul_neg, mul_neg]
      congr 1
      simp only [EReal.coe_mul]; ac_rfl
    rw [mul_comm _ (X k : EReal), h1, h2, mul_twice]
    congr 2
    ring
  · have h0 : Ideal.div 0 (⊤ : EReal) = 0 := by simp [Ideal.div]
    have h1 : Ideal.div 0 (Ideal.ofBits .f32 0x44800000#32) = 0 := by rw [ofBits_width, Ideal.div_coe hn, zero_mul]
    simp only [through, hW, Ideal.rsqrt_top, h0, mul_zero, zero_mul, h1, Finset.sum_const_zero, add_zero]

end Cert.Norm

end
-- ==== Proof.ValK14.lean ====
/- The gradient through the normalisation before the input projection: what one grid point
   computes, and what the result arrays hold after the run. -/
module

public import proofs.«01_k».proof.Proof.Gen.Kernel14Ideal.Frame
public import proofs.«01_k».proof.Proof.Gen.Reference14Ideal
public import proofs.«01_k».proof.Proof.Norm
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Val

open Cert.Kernel14Ideal Cert.Kernel14Ideal.Gen Cert.Norm

/-- The gradient of the product's input, as the reference computes it. -/
abbrev DY (a0 a1 a2 a3 : FVec Ideal Cert.Reference14Ideal.S8256x1024 .bf16) (a4 : FVec Ideal Cert.Reference14Ideal.S1024x4096 .f32) : FVec Ideal Cert.Reference14Ideal.S8256x1024 .f32 :=
  Host.dotGeneral Cert.Reference14Ideal.dot_S8256x4096_S1024x4096_S8256x1024_1_1_0_0_n_n none (extf .f32 ((concatenate Cert.Reference14Ideal.S8256x4096 1 [⟨Cert.Reference14Ideal.S8256x1024, (a0 : (⟨Cert.Reference14Ideal.S8256x1024, .bf16⟩ : BufTy).Contents (Elt Ideal))⟩, ⟨Cert.Reference14Ideal.S8256x1024, (a1 : (⟨Cert.Reference14Ideal.S8256x1024, .bf16⟩ : BufTy).Contents (Elt Ideal))⟩, ⟨Cert.Reference14Ideal.S8256x1024, (a2 : (⟨Cert.Reference14Ideal.S8256x1024, .bf16⟩ : BufTy).Contents (Elt Ideal))⟩, ⟨Cert.Reference14Ideal.S8256x1024, (a3 : (⟨Cert.Reference14Ideal.S8256x1024, .bf16⟩ : BufTy).Contents (Elt Ideal))⟩] Cert.Reference14Ideal.Gen.concatenates_S8256x1024_S8256x1024_S8256x1024_S8256x1024_S8256x4096_d1 : (⟨Cert.Reference14Ideal.S8256x4096, .bf16⟩ : BufTy).Contents (Elt Ideal))) Cert.Reference14Ideal.Gen.bitsLt_bf16_f32) a4

/-- A row's mean square plus epsilon, in the reference. -/
abbrev VR (a5 : FVec Ideal Cert.Reference14Ideal.S8256x1024 .f32) : FVec Ideal Cert.Reference14Ideal.S8256x1 .f32 :=
  addf (Host.divf (broadcastInDim Cert.Reference14Ideal.S8256x1 ![0] Cert.Reference14Ideal.Gen.bcast_S8256_S8256x1_0 (Host.reduceAdd (mulf a5 a5) (constant Cert.Reference14Ideal.S_ .f32 0x00000000#32) Cert.Reference14Ideal.Gen.reducesTo_S8256x1024_S8256_d1 Cert.Reference14Ideal.Gen.h_S_)) (broadcastInDim Cert.Reference14Ideal.S8256x1 ![] Cert.Reference14Ideal.Gen.bcast_S_S8256x1 (constant Cert.Reference14Ideal.S_ .f32 0x44800000#32))) (broadcastInDim Cert.Reference14Ideal.S8256x1 ![] Cert.Reference14Ideal.Gen.bcast_S_S8256x1 (constant Cert.Reference14Ideal.S_ .f32 0x358637BD#32))

/-- The gradient times the gain. -/
abbrev YG (y : FVec Ideal Cert.Reference14Ideal.S8256x1024 .f32) (a6 : FVec Ideal Cert.Reference14Ideal.S1024 .f32) : FVec Ideal Cert.Reference14Ideal.S8256x1024 .f32 :=
  mulf y (broadcastInDim Cert.Reference14Ideal.S8256x1024 ![0, 1] Cert.Reference14Ideal.Gen.bcast_S1x1024_S8256x1024_0_1 (broadcastInDim Cert.Reference14Ideal.S1x1024 ![1] Cert.Reference14Ideal.Gen.bcast_S1024_S1x1024_1 a6))

/-- The gradient through the mean square, per row. -/
abbrev QQ (y : FVec Ideal Cert.Reference14Ideal.S8256x1024 .f32) (a5 : FVec Ideal Cert.Reference14Ideal.S8256x1024 .f32) (a6 : FVec Ideal Cert.Reference14Ideal.S1024 .f32) : FVec Ideal Cert.Reference14Ideal.S8256x1024 .f32 :=
  broadcastInDim Cert.Reference14Ideal.S8256x1024 ![0] Cert.Reference14Ideal.Gen.bcast_S8256_S8256x1024_0 (Host.reduceAdd (Host.divf (mulf (shapeCast _ (Host.reduceAdd (mulf a5 (YG y a6)) (constant Cert.Reference14Ideal.S_ .f32 0x00000000#32) Cert.Reference14Ideal.Gen.reducesTo_S8256x1024_S8256_d1 Cert.Reference14Ideal.Gen.h_S_) Cert.Reference14Ideal.Gen.shapeCasts_S8256_S8256x1) (mulf (broadcastInDim Cert.Reference14Ideal.S8256x1 ![] Cert.Reference14Ideal.Gen.bcast_S_S8256x1 (constant Cert.Reference14Ideal.S_ .f32 0xBF000000#32)) (Host.divf (Host.rsqrt (VR a5)) (VR a5)))) (broadcastInDim Cert.Reference14Ideal.S8256x1 ![] Cert.Reference14Ideal.Gen.bcast_S_S8256x1 (constant Cert.Reference14Ideal.S_ .f32 0x44800000#32))) (constant Cert.Reference14Ideal.S_ .f32 0x00000000#32) Cert.Reference14Ideal.Gen.reducesTo_S8256x1_S8256_d1 Cert.Reference14Ideal.Gen.h_S_)

/-- The gradient of the normalisation's input plus the residual's, in the reference, of the gradient `y` of its result. -/
abbrev DH (y : FVec Ideal Cert.Reference14Ideal.S8256x1024 .f32) (a5 : FVec Ideal Cert.Reference14Ideal.S8256x1024 .f32) (a6 : FVec Ideal Cert.Reference14Ideal.S1024 .f32) (a7 : FVec Ideal Cert.Reference14Ideal.S8256x1024 .f32) : FVec Ideal Cert.Reference14Ideal.S8256x1024 .f32 :=
  addf a7 (addf (addf (mulf (YG y a6) (broadcastInDim Cert.Reference14Ideal.S8256x1024 ![0, 1] Cert.Reference14Ideal.Gen.bcast_S8256x1_S8256x1024_0_1 (Host.rsqrt (VR a5)))) (mulf a5 (QQ y a5 a6))) (mulf (QQ y a5 a6) a5))

/-- The gradient of the gain, in the reference. -/
abbrev DG (y : FVec Ideal Cert.Reference14Ideal.S8256x1024 .f32) (a5 : FVec Ideal Cert.Reference14Ideal.S8256x1024 .f32) : FVec Ideal Cert.Reference14Ideal.S1x1024 .f32 :=
  shapeCast _ (Host.reduceAdd (shapeCast _ (Host.reduceAdd (mulf (mulf a5 (broadcastInDim Cert.Reference14Ideal.S8256x1024 ![0, 1] Cert.Reference14Ideal.Gen.bcast_S8256x1_S8256x1024_0_1 (Host.rsqrt (VR a5)))) y) (constant Cert.Reference14Ideal.S_ .f32 0x00000000#32) Cert.Reference14Ideal.Gen.reducesTo_S8256x1024_S1024_d0 Cert.Reference14Ideal.Gen.h_S_) Cert.Reference14Ideal.Gen.shapeCasts_S1024_S1x1024) (constant Cert.Reference14Ideal.S_ .f32 0x00000000#32) Cert.Reference14Ideal.Gen.reducesTo_S1x1024_S1024_d0 Cert.Reference14Ideal.Gen.h_S_) Cert.Reference14Ideal.Gen.shapeCasts_S1024_S1x1024

/-- Which block each window stages at each grid point. -/
theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![0, 0]
    ∧ win0_8.index t = ![t.val, 0]
    ∧ win0_9.index t = ![0, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

/-- The row of the whole arrays that row `p` of the blocks at grid point `t` is. -/
abbrev row (t : Fin cfg0.N) (p : Fin 688) : Fin 8256 :=
  ⟨688 * t.val + p.val, by have ht : t.val < 12 := t.isLt; omega⟩

/-- A sum over all columns is the sum over the four pieces of the sums over a piece's columns. -/
theorem sum_quarters (f : Fin 4096 → EReal) : (∑ x : Fin 4096, f x)
    = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_add (a := 3072) (b := 1024) f,
    Fin.sum_univ_add (a := 2048) (b := 1024) (fun i : Fin 3072 => f (Fin.castAdd 1024 i)),
    Fin.sum_univ_add (a := 1024) (b := 1024) (fun i : Fin 2048 => f (Fin.castAdd 1024 (Fin.castAdd 1024 i)))]
  rfl

/-- Where the blocks hold the rows and columns of the arrays, the four products add up to the reference's product. -/
theorem core_dy (b0 b2 b4 b6 : FVec Ideal S688x1024 .bf16) (b1 b3 b5 b7 : FVec Ideal S1024x1024 .bf16)
    (a0 a1 a2 a3 : FVec Ideal Cert.Reference14Ideal.S8256x1024 .bf16) (a4 : FVec Ideal Cert.Reference14Ideal.S1024x4096 .f32) (p : Fin 688) (q : Fin 1024) (r : Fin 8256)
    (h0 : ∀ k : Fin 1024, (b0 (ix2 p k) : EReal) = a0 (ix2 r k)) (h2 : ∀ k : Fin 1024, (b2 (ix2 p k) : EReal) = a1 (ix2 r k))
    (h4 : ∀ k : Fin 1024, (b4 (ix2 p k) : EReal) = a2 (ix2 r k)) (h6 : ∀ k : Fin 1024, (b6 (ix2 p k) : EReal) = a3 (ix2 r k))
    (h1 : ∀ k : Fin 1024, (b1 (ix2 q k) : EReal) = a4 (ix2 q ⟨k.val, by omega⟩))
    (h3 : ∀ k : Fin 1024, (b3 (ix2 q k) : EReal) = a4 (ix2 q ⟨1024 + k.val, by omega⟩))
    (h5 : ∀ k : Fin 1024, (b5 (ix2 q k) : EReal) = a4 (ix2 q ⟨2048 + k.val, by omega⟩))
    (h7 : ∀ k : Fin 1024, (b7 (ix2 q k) : EReal) = a4 (ix2 q ⟨3072 + k.val, by omega⟩)) :
    k0_pay9 b0 b1 b2 b3 b4 b5 b6 b7 (ix2 p q) = DY a0 a1 a2 a3 a4 (ix2 r q) := by
  pointwise [k0_pay9, DY]
  refine Eq.trans ?_ (sum_quarters _).symm
  refine congrArg₂ (fun a b : EReal => a + b) (congrArg₂ (fun a b : EReal => a + b) (congrArg₂ (fun a b : EReal => a + b)
      (Finset.sum_congr rfl fun k _ => ?_) (Finset.sum_congr rfl fun k _ => ?_)) (Finset.sum_congr rfl fun k _ => ?_))
      (Finset.sum_congr rfl fun k _ => ?_)
  · rw [dif_pos k.isLt]
    exact congrArg₂ (fun a b : EReal => a * b) (h0 k) (h1 k)
  · have hk := k.isLt
    rw [dif_neg (by dsimp only; omega), dif_pos (by dsimp only; omega)]
    refine congrArg₂ (fun a b : EReal => a * b) ((h2 k).trans (congrArg a1 (congrArg (ix2 r) (Fin.ext ?_)))) (h3 k)
    dsimp only; omega
  · have hk := k.isLt
    rw [dif_neg (by dsimp only; omega), dif_neg (by dsimp only; omega), dif_pos (by dsimp only; omega)]
    refine congrArg₂ (fun a b : EReal => a * b) ((h4 k).trans (congrArg a2 (congrArg (ix2 r) (Fin.ext ?_)))) (h5 k)
    dsimp only; omega
  · have hk := k.isLt
    rw [dif_neg (by dsimp only; omega), dif_neg (by dsimp only; omega), dif_neg (by dsimp only; omega)]
    refine congrArg₂ (fun a b : EReal => a * b) ((h6 k).trans (congrArg a3 (congrArg (ix2 r) (Fin.ext ?_)))) (h7 k)
    dsimp only; omega

/-- Where the blocks hold the rows of the arrays, the call's gradient of the input, plus the residual's,
    is the reference's. -/
theorem core_dh (v0 d v : FVec Ideal S688x1024 .f32) (g : FVec Ideal S1x1024 .f32)
    (y a5 a7 : FVec Ideal Cert.Reference14Ideal.S8256x1024 .f32) (a6 : FVec Ideal Cert.Reference14Ideal.S1024 .f32) (p : Fin 688) (q : Fin 1024) (r : Fin 8256)
    (hx : ∀ k : Fin 1024, v0 (ix2 p k) = a5 (ix2 r k)) (hd : ∀ k : Fin 1024, d (ix2 p k) = y (ix2 r k))
    (hg : ∀ k : Fin 1024, g (ix2 0 k) = a6 (ix1 k)) (hv : v (ix2 p q) = a7 (ix2 r q)) :
    k0_pay1 (k0_pay7 v0) (k0_pay8 v0) d (k0_pay10 g) v (ix2 p q) = DH y a5 a6 a7 (ix2 r q) := by
  pointwise [k0_pay1, k0_pay7, k0_pay8, k0_pay10, DH, QQ, YG, VR]
  simp only [hx, hd, hg, hv]
  refine congrArg (fun z : EReal => _ + z) (norm_back (fun k => a5 (ix2 r k))
    (fun k => HMul.hMul (α := EReal) (β := EReal) (γ := EReal) (y (ix2 r k)) (a6 (ix1 k))) q)

/-- What a row of the arrays adds to a column of the gain's gradient. -/
abbrev contrib (y a5 : FVec Ideal Cert.Reference14Ideal.S8256x1024 .f32) (q : Fin 1024) (r : Fin 8256) : EReal :=
  HMul.hMul (α := EReal) (β := EReal) (γ := EReal) (y (ix2 r q))
    (HMul.hMul (α := EReal) (β := EReal) (γ := EReal) (a5 (ix2 r q)) (Ideal.rsqrt (meanSq fun k => a5 (ix2 r k))))

/-- The same by the row's number, nothing beyond the last. -/
def contribAt (y a5 : FVec Ideal Cert.Reference14Ideal.S8256x1024 .f32) (q : Fin 1024) (n : ℕ) : EReal :=
  if h : n < 8256 then contrib y a5 q ⟨n, h⟩ else 0

/-- Of the blocks at a grid point, what the rows of one remainder modulo eight add to a column of the gain's gradient. -/
theorem core_part (v0 d : FVec Ideal S688x1024 .f32) (y a5 : FVec Ideal Cert.Reference14Ideal.S8256x1024 .f32) (t : Fin cfg0.N) (s : Fin 8) (q : Fin 1024)
    (hx : ∀ p (k : Fin 1024), v0 (ix2 p k) = a5 (ix2 (row t p) k)) (hd : ∀ p (k : Fin 1024), d (ix2 p k) = y (ix2 (row t p) k)) :
    k0_pay3 (k0_pay8 v0) d (ix2 s q) = ∑ x : Fin 86, contribAt y a5 q (688 * t.val + (x.val * 8 + s.val)) := by
  pointwise [k0_pay3, k0_pay7, k0_pay8]
  refine Finset.sum_congr rfl fun x _ => ?_
  have ht : t.val < 12 := t.isLt
  have hx86 := x.isLt
  have hs := s.isLt
  rw [contribAt, dif_pos (by omega)]
  simp only [hx, hd]

/-- A step of the partial sums adds the block's. -/
theorem core_step (a d : FVec Ideal S688x1024 .f32) (acc : FVec Ideal S8x1024 .f32) (s : Fin 8) (q : Fin 1024) :
    k0_pay5 a d acc (ix2 s q) = HAdd.hAdd (α := EReal) (β := EReal) (γ := EReal) (acc (ix2 s q)) (k0_pay3 a d (ix2 s q)) := by
  pointwise [k0_pay5, k0_pay3]

/-- The sum over the remainders, the grid points and the groups of eight rows is the sum over all rows. -/
theorem sum_rows (f : ℕ → EReal) : (∑ s : Fin 8, ∑ t ∈ Finset.range 12, ∑ x : Fin 86, f (688 * t + (x.val * 8 + s.val)))
    = ∑ r : Fin 8256, f r.val := by
  refine Eq.trans ?_ (Fin.sum_univ_tiles 12 688 (by norm_num) fun r : Fin 8256 => f r.val).symm
  rw [Finset.sum_comm, Finset.sum_range]
  refine Finset.sum_congr rfl fun t _ => ?_
  refine Eq.trans ?_ (Fin.sum_univ_tiles 86 8 (by norm_num) fun z : Fin 688 => f (t.val * 688 + z.val)).symm
  rw [Finset.sum_comm]
  refine Finset.sum_congr rfl fun x _ => Finset.sum_congr rfl fun s _ => ?_
  rw [mul_comm 688]

/-- The gain's gradient in the reference is the sum of what the rows add. -/
theorem core_dg (acc : FVec Ideal S8x1024 .f32) (y a5 : FVec Ideal Cert.Reference14Ideal.S8256x1024 .f32) (q : Fin 1024)
    (h : ∀ s : Fin 8, acc (ix2 s q) = ∑ t ∈ Finset.range 12, ∑ x : Fin 86, contribAt y a5 q (688 * t + (x.val * 8 + s.val))) :
    k0_pay6 acc (ix2 0 q) = DG y a5 (ix2 0 q) := by
  pointwise [k0_pay6, DG, VR]
  simp only [h]
  refine (sum_rows _).trans ?_
  rw [Fin.sum_univ_one]
  refine Finset.sum_congr rfl fun r _ => ?_
  rw [contribAt, dif_pos r.isLt]
  exact mul_comm _ _

variable (m : (ℓ : Loc nD τ sig) → Buf (Elt Ideal) ℓ)

/-- The gradient of the normalised activations, on the arrays of a memory. -/
abbrev Y (c : Dev nD) : FVec Ideal Cert.Reference14Ideal.S8256x1024 .f32 :=
  DY (m ((c : Thread nD τ).loc main_arg0)) (m ((c : Thread nD τ).loc main_arg1)) (m ((c : Thread nD τ).loc main_arg2))
    (m ((c : Thread nD τ).loc main_arg3)) (m ((c : Thread nD τ).loc main_arg4))

/-- The product the call computes at a grid point. -/
abbrev dyb (c : Dev nD) (t : Fin cfg0.N) : FVec Ideal S688x1024 .f32 :=
  k0_pay9 (iblk m c 0 t) (iblk m c 1 t) (iblk m c 2 t) (iblk m c 3 t) (iblk m c 4 t) (iblk m c 5 t) (iblk m c 6 t) (iblk m c 7 t)

/-- The product at a grid point is the reference's, at the rows of the point. -/
theorem dy_at (c : Dev nD) (t : Fin cfg0.N) (p : Fin 688) (q : Fin 1024) :
    dyb m c t (ix2 p q) = Y m c (ix2 (row t p) q) := by
  refine core_dy _ _ _ _ _ _ _ _ _ _ _ _ _ p q (row t p) ?_ ?_ ?_ ?_ ?_ ?_ ?_ ?_
  all_goals
    intro k
    blk_point [iblk, V, idx t]

/-- The block of the input at a grid point holds its rows. -/
theorem h_at (c : Dev nD) (t : Fin cfg0.N) (p : Fin 688) (k : Fin 1024) :
    (iblk m c 8 t : FVec Ideal S688x1024 .f32) (ix2 p k) = (m ((c : Thread nD τ).loc main_arg5)) (ix2 (row t p) k) := by
  blk_point [iblk, V, idx t]

/-- The block of the gain is the gain. -/
theorem g_at (c : Dev nD) (t : Fin cfg0.N) (k : Fin 1024) :
    (iblk m c 9 t : FVec Ideal S1x1024 .f32) (ix2 0 k) = (m ((c : Thread nD τ).loc main_arg6)) (ix1 k) := by
  blk_point [iblk, V, idx t]

/-- The block of the residual's gradient at a grid point holds its rows. -/
theorem r_at (c : Dev nD) (t : Fin cfg0.N) (p : Fin 688) (k : Fin 1024) :
    (iblk m c 10 t : FVec Ideal S688x1024 .f32) (ix2 p k) = (m ((c : Thread nD τ).loc main_arg7)) (ix2 (row t p) k) := by
  blk_point [iblk, V, idx t]

/-- The input's gradient at a grid point is the reference's, at the rows of the point. -/
theorem dh_at (c : Dev nD) (t : Fin cfg0.N) (p : Fin 688) (q : Fin 1024) :
    k0_pay1 (k0_pay7 (iblk m c 8 t)) (k0_pay8 (iblk m c 8 t)) (dyb m c t) (k0_pay10 (iblk m c 9 t)) (iblk m c 10 t) (ix2 p q)
      = DH (Y m c) (m ((c : Thread nD τ).loc main_arg5)) (m ((c : Thread nD τ).loc main_arg6)) (m ((c : Thread nD τ).loc main_arg7))
        (ix2 (row t p) q) :=
  core_dh _ _ _ _ _ _ _ _ p q (row t p) (h_at m c t p) (dy_at m c t p) (g_at m c t) (r_at m c t p q)

/-- The gradient of the gain's partial sums after the first grid point. -/
theorem acc_first (c : Dev nD) (t : Fin cfg0.N) (ht : t.val = 0) :
    (outsAt0 m c t.val t.isLt).2.2.2 = k0_pay3 (k0_pay8 (iblk m c 8 t)) (dyb m c t) := by
  rw [outsAt0_A m c t (by omega) (by omega) (by omega)]; dsimp only; frame_out; exact shapeCast_self _ _

/-- After a middle one. -/
theorem acc_middle (c : Dev nD) (t : Fin cfg0.N) (h0 : 1 ≤ t.val) (h1 : t.val < 11) :
    (outsAt0 m c t.val t.isLt).2.2.2 = k0_pay5 (k0_pay8 (iblk m c 8 t)) (dyb m c t)
      (outsAt0 m c (t.val - 1) (by have := t.isLt; omega)).2.2.2 := by
  rw [outsAt0_B m c t (by omega) h0 (by omega)]; dsimp only; frame_out; rw [read_unread_whole]

/-- What the last one stores as the gain's gradient. -/
theorem gain_last (c : Dev nD) (t : Fin cfg0.N) (ht : t.val % 12 = 11) :
    (outsAt0 m c t.val t.isLt).2.2.1 = k0_pay6 (k0_pay5 (k0_pay8 (iblk m c 8 t)) (dyb m c t)
      (outsAt0 m c (t.val - 1) (by have := t.isLt; omega)).2.2.2) := by
  rw [outsAt0_C m c t (by omega) (by omega) ht]; dsimp only; frame_out; rw [read_unread_whole]

/-- The partial sums after a grid point before the last are what the rows up to there add. -/
theorem acc_sum (c : Dev nD) (n : ℕ) (hn : n < 11) (s : Fin 8) (q : Fin 1024) :
    (outsAt0 m c n (Nat.lt_trans hn (by decide))).2.2.2 (ix2 s q) = ∑ t ∈ Finset.range (n + 1), ∑ x : Fin 86,
      contribAt (Y m c) (m ((c : Thread nD τ).loc main_arg5)) q (688 * t + (x.val * 8 + s.val)) := by
  induction n with
  | zero =>
    rw [acc_first m c ⟨0, by decide⟩ rfl, core_part _ _ _ _ _ s q (h_at m c _) (dy_at m c _), Finset.sum_range_one]
  | succ n ih =>
    rw [acc_middle m c ⟨n + 1, Nat.lt_trans hn (by decide)⟩ (by dsimp only; omega) hn, core_step,
      core_part _ _ _ _ _ s q (h_at m c _) (dy_at m c _), Finset.sum_range_succ]
    exact congrArg (fun z : EReal => z + _) (ih (by omega))

/-- The input's gradient where a grid point's block lies, in f32. -/
theorem out_dh (c : Dev nD) (t : Fin cfg0.N) : (outsAt0 m c t.val t.isLt).1
    = k0_pay1 (k0_pay7 (iblk m c 8 t)) (k0_pay8 (iblk m c 8 t)) (dyb m c t) (k0_pay10 (iblk m c 9 t)) (iblk m c 10 t) := by
  have ht : t.val < 12 := t.isLt
  by_cases h0 : t.val = 0
  · rw [outsAt0_A m c t (by omega) (by omega) (by omega)]; dsimp only; frame_out
  · by_cases h1 : t.val % 12 = 11
    · rw [outsAt0_C m c t (by omega) (by omega) h1]; dsimp only; frame_out
    · rw [outsAt0_B m c t (by omega) (by omega) h1]; dsimp only; frame_out

/-- The same in bf16. -/
theorem out_dh16 (c : Dev nD) (t : Fin cfg0.N) : (outsAt0 m c t.val t.isLt).2.1
    = k0_pay2 (k0_pay7 (iblk m c 8 t)) (k0_pay8 (iblk m c 8 t)) (dyb m c t) (k0_pay10 (iblk m c 9 t)) (iblk m c 10 t) := by
  have ht : t.val < 12 := t.isLt
  by_cases h0 : t.val = 0
  · rw [outsAt0_A m c t (by omega) (by omega) (by omega)]; dsimp only; frame_out
  · by_cases h1 : t.val % 12 = 11
    · rw [outsAt0_C m c t (by omega) (by omega) h1]; dsimp only; frame_out
    · rw [outsAt0_B m c t (by omega) (by omega) h1]; dsimp only; frame_out

/-- The reference's gradient of the input, on the arrays of a memory. -/
abbrev REF_dh (c : Dev nD) : FVec Ideal Cert.Reference14Ideal.S8256x1024 .f32 :=
  DH (Y m c) (m ((c : Thread nD τ).loc main_arg5)) (m ((c : Thread nD τ).loc main_arg6)) (m ((c : Thread nD τ).loc main_arg7))

/-- The input's gradient at a grid point is the reference's where the block of the first result lies. -/
theorem point_11 (c : Dev nD) (t : Fin cfg0.N) (y : S688x1024.Idx) :
    k0_pay1 (k0_pay7 (iblk m c 8 t)) (k0_pay8 (iblk m c 8 t)) (dyb m c t) (k0_pay10 (iblk m c 9 t)) (iblk m c 10 t) y
      = REF_dh m c (((cfg0.win 11).blk t).view.emb y) := by
  have h := dh_at m c t (y 0) (y 1)
  rw [ix2_eta] at h
  refine h.trans (congrArg (REF_dh m c) ?_)
  blk_point [idx t]

/-- And where the block of the second lies. -/
theorem point_12 (c : Dev nD) (t : Fin cfg0.N) (y : S688x1024.Idx) :
    k0_pay1 (k0_pay7 (iblk m c 8 t)) (k0_pay8 (iblk m c 8 t)) (dyb m c t) (k0_pay10 (iblk m c 9 t)) (iblk m c 10 t) y
      = REF_dh m c (((cfg0.win 12).blk t).view.emb y) := by
  have h := dh_at m c t (y 0) (y 1)
  rw [ix2_eta] at h
  refine h.trans (congrArg (REF_dh m c) ?_)
  blk_point [idx t]

/-- Each column of the gain's gradient that the last grid point stores is the reference's. -/
theorem gain_at (c : Dev nD) (t : Fin cfg0.N) (ht : t.val = 11) (q : Fin 1024) :
    k0_pay6 (k0_pay5 (k0_pay8 (iblk m c 8 t)) (dyb m c t) (outsAt0 m c (t.val - 1) (by have := t.isLt; omega)).2.2.2) (ix2 0 q)
      = DG (Y m c) (m ((c : Thread nD τ).loc main_arg5)) (ix2 0 q) := by
  refine core_dg _ _ _ q fun s => ?_
  rw [core_step, core_part _ _ _ _ _ s q (h_at m c _) (dy_at m c _), acc_sum m c (t.val - 1) (by omega) s q, ht]
  exact (Finset.sum_range_succ _ 11).symm

/-- The gain's gradient that the last grid point stores is the reference's. -/
theorem point_13 (c : Dev nD) (t : Fin cfg0.N) (ht : t.val = 11) (y : S1x1024.Idx) :
    k0_pay6 (k0_pay5 (k0_pay8 (iblk m c 8 t)) (dyb m c t) (outsAt0 m c (t.val - 1) (by have := t.isLt; omega)).2.2.2) y
      = DG (Y m c) (m ((c : Thread nD τ).loc main_arg5)) (((cfg0.win 13).blk t).view.emb y) := by
  obtain ⟨q, rfl⟩ : ∃ q : Fin 1024, y = ix2 0 q :=
    ⟨y 1, ((congrArg (fun z => ix2 z (y 1)) (Subsingleton.elim _ _)).trans (ix2_eta y)).symm⟩
  refine (gain_at m c t ht q).trans (congrArg (DG (Y m c) (m ((c : Thread nD τ).loc main_arg5))) ?_)
  blk_point [idx t]

/-- The input's gradient: the result array after the run is the reference's. -/
theorem final_11 (c : Dev nD) : (dats m 0 c).arrAt 11 (cfgs 0).N = REF_dh m c := by
  refine (dats m 0 c).arrAt_eq_of_covers 11 _ (by decide +kernel) fun t hf y => ?_
  blk_simp; rw [after0_11, out_dh]
  exact point_11 m c t y

/-- The input's gradient in bf16: the result array after the run is the reference's. -/
theorem final_12 (c : Dev nD) : (dats m 0 c).arrAt 12 (cfgs 0).N
    = truncf .bf16 (REF_dh m c) Cert.Reference14Ideal.Gen.bitsLt_bf16_f32 := by
  refine (dats m 0 c).arrAt_eq_of_covers 12 _ (by decide +kernel) fun t hf y => ?_
  blk_simp; rw [after0_12, out_dh16]
  exact point_12 m c t y

/-- The gain's gradient: the result array after the run is the reference's. -/
theorem final_13 (c : Dev nD) : (dats m 0 c).arrAt 13 (cfgs 0).N = DG (Y m c) (m ((c : Thread nD τ).loc main_arg5)) := by
  refine (dats m 0 c).arrAt_eq_of_covers 13 _ (by decide +kernel) fun t hf y => ?_
  have hf' := (flush0_13 t).mp hf
  blk_simp; rw [after0_13, gain_last m c t hf']
  exact point_13 m c t (by have ht : t.val < 12 := t.isLt; omega) y

end Cert.Kernel14Ideal.Val

end
-- ==== Proof.ValK14Run.lean ====
/-
  The fourteenth call against its reference: both run, and the results are equal.
-/
module

public import proofs.«01_k».proof.Defs
public import proofs.«01_k».proof.Proof.Gen.Reference14Ideal.Run
public import proofs.«01_k».proof.Proof.ValK14

@[expose] public section

set_option maxRecDepth 16384

noncomputable section

open Idealize.ShloMosaic Idealize.ShloMosaic.TcCoe Idealize.SL.Sem

namespace Cert.Reference14Ideal.Run
open Cert.Kernel14Ideal.Val
variable (m : (ℓ : Loc Cert.Reference14Ideal.nD Cert.Reference14Ideal.τ Cert.Reference14Ideal.sig) → Buf (Elt Ideal) ℓ)
open Cert.Reference14Ideal

/-- The first result the reference returns, by the parts the call's value is stated with. -/
theorem res40 (c : Dev nD) : Cert.Reference14Ideal.Value.res_main_v40 m c
    = DH (DY (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))
      (m ((c.tc : Thread nD τ).loc main_arg6)) (m ((c.tc : Thread nD τ).loc main_arg7)) := by
  unfold Cert.Reference14Ideal.Value.res_main_v40
  rfl

/-- The second result is the first one in bf16. -/
theorem res42 (c : Dev nD) : Cert.Reference14Ideal.Value.res_main_v42 m c
    = (truncf .bf16 (Cert.Reference14Ideal.Value.res_main_v40 m c : FVec Ideal S8256x1024 .f32) Cert.Reference14Ideal.Gen.bitsLt_bf16_f32 : FVec Ideal S8256x1024 .bf16) := by
  unfold Cert.Reference14Ideal.Value.res_main_v42 Cert.Reference14Ideal.Value.res_main_v40
  rfl

set_option maxHeartbeats 800000 in
/-- The call and the reference run from memories that agree on the arguments, and their results are equal. -/
theorem pair [Cert.Kernel14Ideal.Facts] [Cert.Reference14Ideal.Facts] : Cert.algebraic_Kernel14Ideal_Reference14Ideal := by
  pair_intro
  · run_from Cert.Kernel14Ideal.Gen.run_main m g
  · refine (θ_run Cert.Reference14Ideal.defs _ _).mono (fun r h c => ?_) (Cert.Reference14Ideal.Value.run m' g')
    obtain ⟨h0, h1, h2, hargs⟩ := h c
    obtain ⟨e0, e1, e2, e3, e4, e5, e6, e7⟩ := hagree c
    have hr : Cert.Reference14Ideal.Value.res_main_v40 m' c = REF_dh m c := by
      rw [res40, e0, e1, e2, e3, e4, e5, e6, e7]
    refine ⟨h0.trans ?_, h1.trans ?_, h2.trans ?_, hargs⟩
    · rw [hr]; exact (final_11 m c).symm
    · rw [res42, hr]; exact (final_12 m c).symm
    · rw [e0, e1, e2, e3, e4, e5]; exact (final_13 m c).symm

end Cert.Reference14Ideal.Run

end
-- ==== Proof.ValK15.lean ====
/- The gradient through the normalisation before the up projections of a feed-forward layer: what one grid point
   computes, and what the result arrays hold after the run. -/
module

public import proofs.«01_k».proof.Proof.Gen.Kernel15Ideal.Frame
public import proofs.«01_k».proof.Proof.Gen.Reference15Ideal
public import proofs.«01_k».proof.Proof.Norm
public import Idealize.ShloMosaic.Lib.Pipeline.ValueKit
public import Idealize.ShloMosaic.Lib.Pipeline.ReadBack
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Val

open Cert.Kernel15Ideal Cert.Kernel15Ideal.Gen Cert.Norm

/-- The gradient of the two products' input, as the reference computes it. -/
abbrev DY (a0 a1 : FVec Ideal Cert.Reference15Ideal.S4x8256x704 .bf16) (a2 a3 : FVec Ideal Cert.Reference15Ideal.S1024x2816 .f32) : FVec Ideal Cert.Reference15Ideal.S8256x1024 .f32 :=
  addf (Host.dotGeneral Cert.Reference15Ideal.dot_S8256x2816_S1024x2816_S8256x1024_1_1_0_0_n_n none (shapeCast _ (transpose Cert.Reference15Ideal.S8256x4x704 [1, 0, 2] (extf .f32 a1 Cert.Reference15Ideal.Gen.bitsLt_bf16_f32) Cert.Reference15Ideal.Gen.transposes_S4x8256x704_S8256x4x704_1_0_2) Cert.Reference15Ideal.Gen.shapeCasts_S8256x4x704_S8256x2816) a3) (Host.dotGeneral Cert.Reference15Ideal.dot_S8256x2816_S1024x2816_S8256x1024_1_1_0_0_n_n none (shapeCast _ (transpose Cert.Reference15Ideal.S8256x4x704 [1, 0, 2] (extf .f32 a0 Cert.Reference15Ideal.Gen.bitsLt_bf16_f32) Cert.Reference15Ideal.Gen.transposes_S4x8256x704_S8256x4x704_1_0_2) Cert.Reference15Ideal.Gen.shapeCasts_S8256x4x704_S8256x2816) a2)

/-- A row's mean square plus epsilon, in the reference. -/
abbrev VR (a5 : FVec Ideal Cert.Reference15Ideal.S8256x1024 .f32) : FVec Ideal Cert.Reference15Ideal.S8256x1 .f32 :=
  addf (Host.divf (broadcastInDim Cert.Reference15Ideal.S8256x1 ![0] Cert.Reference15Ideal.Gen.bcast_S8256_S8256x1_0 (Host.reduceAdd (mulf a5 a5) (constant Cert.Reference15Ideal.S_ .f32 0x00000000#32) Cert.Reference15Ideal.Gen.reducesTo_S8256x1024_S8256_d1 Cert.Reference15Ideal.Gen.h_S_)) (broadcastInDim Cert.Reference15Ideal.S8256x1 ![] Cert.Reference15Ideal.Gen.bcast_S_S8256x1 (constant Cert.Reference15Ideal.S_ .f32 0x44800000#32))) (broadcastInDim Cert.Reference15Ideal.S8256x1 ![] Cert.Reference15Ideal.Gen.bcast_S_S8256x1 (constant Cert.Reference15Ideal.S_ .f32 0x358637BD#32))

/-- The gradient times the gain. -/
abbrev YG (y : FVec Ideal Cert.Reference15Ideal.S8256x1024 .f32) (a6 : FVec Ideal Cert.Reference15Ideal.S1024 .f32) : FVec Ideal Cert.Reference15Ideal.S8256x1024 .f32 :=
  mulf y (broadcastInDim Cert.Reference15Ideal.S8256x1024 ![0, 1] Cert.Reference15Ideal.Gen.bcast_S1x1024_S8256x1024_0_1 (broadcastInDim Cert.Reference15Ideal.S1x1024 ![1] Cert.Reference15Ideal.Gen.bcast_S1024_S1x1024_1 a6))

/-- The gradient through the mean square, per row. -/
abbrev QQ (y : FVec Ideal Cert.Reference15Ideal.S8256x1024 .f32) (a5 : FVec Ideal Cert.Reference15Ideal.S8256x1024 .f32) (a6 : FVec Ideal Cert.Reference15Ideal.S1024 .f32) : FVec Ideal Cert.Reference15Ideal.S8256x1024 .f32 :=
  broadcastInDim Cert.Reference15Ideal.S8256x1024 ![0] Cert.Reference15Ideal.Gen.bcast_S8256_S8256x1024_0 (Host.reduceAdd (Host.divf (mulf (shapeCast _ (Host.reduceAdd (mulf a5 (YG y a6)) (constant Cert.Reference15Ideal.S_ .f32 0x00000000#32) Cert.Reference15Ideal.Gen.reducesTo_S8256x1024_S8256_d1 Cert.Reference15Ideal.Gen.h_S_) Cert.Reference15Ideal.Gen.shapeCasts_S8256_S8256x1) (mulf (broadcastInDim Cert.Reference15Ideal.S8256x1 ![] Cert.Reference15Ideal.Gen.bcast_S_S8256x1 (constant Cert.Reference15Ideal.S_ .f32 0xBF000000#32)) (Host.divf (Host.rsqrt (VR a5)) (VR a5)))) (broadcastInDim Cert.Reference15Ideal.S8256x1 ![] Cert.Reference15Ideal.Gen.bcast_S_S8256x1 (constant Cert.Reference15Ideal.S_ .f32 0x44800000#32))) (constant Cert.Reference15Ideal.S_ .f32 0x00000000#32) Cert.Reference15Ideal.Gen.reducesTo_S8256x1_S8256_d1 Cert.Reference15Ideal.Gen.h_S_)

/-- The gradient of the normalisation's input plus the residual's, in the reference, of the gradient `y` of its result. -/
abbrev DH (y : FVec Ideal Cert.Reference15Ideal.S8256x1024 .f32) (a5 : FVec Ideal Cert.Reference15Ideal.S8256x1024 .f32) (a6 : FVec Ideal Cert.Reference15Ideal.S1024 .f32) (a7 : FVec Ideal Cert.Reference15Ideal.S8256x1024 .f32) : FVec Ideal Cert.Reference15Ideal.S8256x1024 .f32 :=
  addf a7 (addf (addf (mulf (YG y a6) (broadcastInDim Cert.Reference15Ideal.S8256x1024 ![0, 1] Cert.Reference15Ideal.Gen.bcast_S8256x1_S8256x1024_0_1 (Host.rsqrt (VR a5)))) (mulf a5 (QQ y a5 a6))) (mulf (QQ y a5 a6) a5))

/-- The gradient of the gain, in the reference. -/
abbrev DG (y : FVec Ideal Cert.Reference15Ideal.S8256x1024 .f32) (a5 : FVec Ideal Cert.Reference15Ideal.S8256x1024 .f32) : FVec Ideal Cert.Reference15Ideal.S1x1024 .f32 :=
  shapeCast _ (Host.reduceAdd (shapeCast _ (Host.reduceAdd (mulf (mulf a5 (broadcastInDim Cert.Reference15Ideal.S8256x1024 ![0, 1] Cert.Reference15Ideal.Gen.bcast_S8256x1_S8256x1024_0_1 (Host.rsqrt (VR a5)))) y) (constant Cert.Reference15Ideal.S_ .f32 0x00000000#32) Cert.Reference15Ideal.Gen.reducesTo_S8256x1024_S1024_d0 Cert.Reference15Ideal.Gen.h_S_) Cert.Reference15Ideal.Gen.shapeCasts_S1024_S1x1024) (constant Cert.Reference15Ideal.S_ .f32 0x00000000#32) Cert.Reference15Ideal.Gen.reducesTo_S1x1024_S1024_d0 Cert.Reference15Ideal.Gen.h_S_) Cert.Reference15Ideal.Gen.shapeCasts_S1024_S1x1024

/-- Which block each window stages at each grid point. -/
theorem idx : ∀ t : Fin cfg0.N, win0_0.index t = ![0, t.val, 0]
    ∧ win0_1.index t = ![0, 0, 0]
    ∧ win0_2.index t = ![0, t.val, 0]
    ∧ win0_3.index t = ![0, 0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

/-- The row of the whole arrays that row `p` of the blocks at grid point `t` is. -/
abbrev row (t : Fin cfg0.N) (p : Fin 688) : Fin 8256 :=
  ⟨688 * t.val + p.val, by have ht : t.val < 12 := t.isLt; omega⟩

/-- A sum over all columns is the sum over the four slots of the sums over a slot's columns. -/
theorem sum_slots (f : Fin 2816 → EReal) : (∑ x : Fin 2816, f x)
    = (∑ k : Fin 704, f ⟨k.val, by omega⟩) + (∑ k : Fin 704, f ⟨704 + k.val, by omega⟩)
      + (∑ k : Fin 704, f ⟨1408 + k.val, by omega⟩) + ∑ k : Fin 704, f ⟨2112 + k.val, by omega⟩ := by
  rw [Fin.sum_univ_add (a := 2112) (b := 704) f,
    Fin.sum_univ_add (a := 1408) (b := 704) (fun i : Fin 2112 => f (Fin.castAdd 704 i)),
    Fin.sum_univ_add (a := 704) (b := 704) (fun i : Fin 1408 => f (Fin.castAdd 704 (Fin.castAdd 704 i)))]
  rfl

/-- Where four pairs of blocks hold the slots' rows and columns of two arrays, their products add up to the product of the
    arrays. -/
theorem core_slots (b0 b1 b2 b3 : FVec Ideal S1x688x704 .bf16) (v0 v1 v2 v3 : FVec Ideal S1x704x1024 .bf16)
    (a0 : FVec Ideal Cert.Reference15Ideal.S4x8256x704 .bf16) (a2 : FVec Ideal Cert.Reference15Ideal.S1024x2816 .f32) (p : Fin 688) (q : Fin 1024) (r : Fin 8256)
    (h0 : ∀ k : Fin 704, (b0 (ix3 0 p k) : EReal) = a0 (ix3 0 r k)) (g0 : ∀ k : Fin 704, (v0 (ix3 0 k q) : EReal) = a2 (ix2 q ⟨k.val, by omega⟩))
    (h1 : ∀ k : Fin 704, (b1 (ix3 0 p k) : EReal) = a0 (ix3 1 r k)) (g1 : ∀ k : Fin 704, (v1 (ix3 0 k q) : EReal) = a2 (ix2 q ⟨704 + k.val, by omega⟩))
    (h2 : ∀ k : Fin 704, (b2 (ix3 0 p k) : EReal) = a0 (ix3 2 r k)) (g2 : ∀ k : Fin 704, (v2 (ix3 0 k q) : EReal) = a2 (ix2 q ⟨1408 + k.val, by omega⟩))
    (h3 : ∀ k : Fin 704, (b3 (ix3 0 p k) : EReal) = a0 (ix3 3 r k)) (g3 : ∀ k : Fin 704, (v3 (ix3 0 k q) : EReal) = a2 (ix2 q ⟨2112 + k.val, by omega⟩)) :
    (∑ k : Fin 704, HMul.hMul (α := EReal) (β := EReal) (γ := EReal) (b0 (ix3 0 p k)) (v0 (ix3 0 k q))) + (∑ k : Fin 704, HMul.hMul (α := EReal) (β := EReal) (γ := EReal) (b1 (ix3 0 p k)) (v1 (ix3 0 k q))) + (∑ k : Fin 704, HMul.hMul (α := EReal) (β := EReal) (γ := EReal) (b2 (ix3 0 p k)) (v2 (ix3 0 k q))) + (∑ k : Fin 704, HMul.hMul (α := EReal) (β := EReal) (γ := EReal) (b3 (ix3 0 p k)) (v3 (ix3 0 k q)))
      = ∑ x : Fin 2816, HMul.hMul (α := EReal) (β := EReal) (γ := EReal) (a0 (ix3 ⟨x.val / 704, by omega⟩ r ⟨x.val % 704, by omega⟩)) (a2 (ix2 q x)) := by
  refine Eq.trans ?_ (sum_slots _).symm
  refine congrArg₂ (fun a b : EReal => a + b) (congrArg₂ (fun a b : EReal => a + b) (congrArg₂ (fun a b : EReal => a + b)
      (Finset.sum_congr rfl fun k _ => ?_) (Finset.sum_congr rfl fun k _ => ?_)) (Finset.sum_congr rfl fun k _ => ?_))
      (Finset.sum_congr rfl fun k _ => ?_)
  · have hk := k.isLt
    refine congrArg₂ (fun a b : EReal => a * b) ((h0 k).trans (congrArg a0 (congrArg₂ (fun i j => ix3 i r j)
      (Fin.ext ?_) (Fin.ext ?_)))) (g0 k)
    · show 0 = (k.val) / 704
      omega
    · show k.val = (k.val) % 704
      omega
  · have hk := k.isLt
    refine congrArg₂ (fun a b : EReal => a * b) ((h1 k).trans (congrArg a0 (congrArg₂ (fun i j => ix3 i r j)
      (Fin.ext ?_) (Fin.ext ?_)))) (g1 k)
    · show 1 = (704 + k.val) / 704
      omega
    · show k.val = (704 + k.val) % 704
      omega
  · have hk := k.isLt
    refine congrArg₂ (fun a b : EReal => a * b) ((h2 k).trans (congrArg a0 (congrArg₂ (fun i j => ix3 i r j)
      (Fin.ext ?_) (Fin.ext ?_)))) (g2 k)
    · show 2 = (1408 + k.val) / 704
      omega
    · show k.val = (1408 + k.val) % 704
      omega
  · have hk := k.isLt
    refine congrArg₂ (fun a b : EReal => a * b) ((h3 k).trans (congrArg a0 (congrArg₂ (fun i j => ix3 i r j)
      (Fin.ext ?_) (Fin.ext ?_)))) (g3 k)
    · show 3 = (2112 + k.val) / 704
      omega
    · show k.val = (2112 + k.val) % 704
      omega

/-- Eight terms in a row are the last four plus the first four. -/
theorem eight (a b c d e f g h : EReal) : a + b + c + d + e + f + g + h = (e + f + g + h) + (a + b + c + d) := by
  simp only [add_assoc, add_comm, add_left_comm]

/-- Where the blocks hold the rows and columns of the arrays, the eight products add up to the reference's two. -/
theorem core_dy (b0 b1 b2 b3 c0 c1 c2 c3 : FVec Ideal S1x688x704 .bf16) (v0 v1 v2 v3 w0 w1 w2 w3 : FVec Ideal S1x704x1024 .bf16)
    (a0 a1 : FVec Ideal Cert.Reference15Ideal.S4x8256x704 .bf16) (a2 a3 : FVec Ideal Cert.Reference15Ideal.S1024x2816 .f32) (p : Fin 688) (q : Fin 1024) (r : Fin 8256)
    (hb0 : ∀ k : Fin 704, (b0 (ix3 0 p k) : EReal) = a0 (ix3 0 r k)) (hv0 : ∀ k : Fin 704, (v0 (ix3 0 k q) : EReal) = a2 (ix2 q ⟨k.val, by omega⟩))
    (hb1 : ∀ k : Fin 704, (b1 (ix3 0 p k) : EReal) = a0 (ix3 1 r k)) (hv1 : ∀ k : Fin 704, (v1 (ix3 0 k q) : EReal) = a2 (ix2 q ⟨704 + k.val, by omega⟩))
    (hb2 : ∀ k : Fin 704, (b2 (ix3 0 p k) : EReal) = a0 (ix3 2 r k)) (hv2 : ∀ k : Fin 704, (v2 (ix3 0 k q) : EReal) = a2 (ix2 q ⟨1408 + k.val, by omega⟩))
    (hb3 : ∀ k : Fin 704, (b3 (ix3 0 p k) : EReal) = a0 (ix3 3 r k)) (hv3 : ∀ k : Fin 704, (v3 (ix3 0 k q) : EReal) = a2 (ix2 q ⟨2112 + k.val, by omega⟩))
    (hc0 : ∀ k : Fin 704, (c0 (ix3 0 p k) : EReal) = a1 (ix3 0 r k)) (hw0 : ∀ k : Fin 704, (w0 (ix3 0 k q) : EReal) = a3 (ix2 q ⟨k.val, by omega⟩))
    (hc1 : ∀ k : Fin 704, (c1 (ix3 0 p k) : EReal) = a1 (ix3 1 r k)) (hw1 : ∀ k : Fin 704, (w1 (ix3 0 k q) : EReal) = a3 (ix2 q ⟨704 + k.val, by omega⟩))
    (hc2 : ∀ k : Fin 704, (c2 (ix3 0 p k) : EReal) = a1 (ix3 2 r k)) (hw2 : ∀ k : Fin 704, (w2 (ix3 0 k q) : EReal) = a3 (ix2 q ⟨1408 + k.val, by omega⟩))
    (hc3 : ∀ k : Fin 704, (c3 (ix3 0 p k) : EReal) = a1 (ix3 3 r k)) (hw3 : ∀ k : Fin 704, (w3 (ix3 0 k q) : EReal) = a3 (ix2 q ⟨2112 + k.val, by omega⟩)) :
    k0_pay11 (k0_pay9 b0 v0 b1 v1 b2 v2) (k0_pay10 b3) v3 c0 w0 c1 w1 c2 w2 c3 w3 (ix2 p q) = DY a0 a1 a2 a3 (ix2 r q) := by
  pointwise [k0_pay9, k0_pay10, k0_pay11, DY]
  rw [eight]
  exact congrArg₂ (fun a b : EReal => a + b) (core_slots c0 c1 c2 c3 w0 w1 w2 w3 a1 a3 p q r hc0 hw0 hc1 hw1 hc2 hw2 hc3 hw3)
    (core_slots b0 b1 b2 b3 v0 v1 v2 v3 a0 a2 p q r hb0 hv0 hb1 hv1 hb2 hv2 hb3 hv3)

/-- Where the blocks hold the rows of the arrays, the call's gradient of the input, plus the residual's,
    is the reference's. -/
theorem core_dh (v0 d v : FVec Ideal S688x1024 .f32) (g : FVec Ideal S1x1024 .f32)
    (y a5 a7 : FVec Ideal Cert.Reference15Ideal.S8256x1024 .f32) (a6 : FVec Ideal Cert.Reference15Ideal.S1024 .f32) (p : Fin 688) (q : Fin 1024) (r : Fin 8256)
    (hx : ∀ k : Fin 1024, v0 (ix2 p k) = a5 (ix2 r k)) (hd : ∀ k : Fin 1024, d (ix2 p k) = y (ix2 r k))
    (hg : ∀ k : Fin 1024, g (ix2 0 k) = a6 (ix1 k)) (hv : v (ix2 p q) = a7 (ix2 r q)) :
    k0_pay1 (k0_pay7 v0) (k0_pay8 v0) d g v (ix2 p q) = DH y a5 a6 a7 (ix2 r q) := by
  pointwise [k0_pay1, k0_pay7, k0_pay8, DH, QQ, YG, VR]
  simp only [hx, hd, hg, hv]
  refine congrArg (fun z : EReal => _ + z) (norm_back (fun k => a5 (ix2 r k))
    (fun k => HMul.hMul (α := EReal) (β := EReal) (γ := EReal) (y (ix2 r k)) (a6 (ix1 k))) q)

/-- What a row of the arrays adds to a column of the gain's gradient. -/
abbrev contrib (y a5 : FVec Ideal Cert.Reference15Ideal.S8256x1024 .f32) (q : Fin 1024) (r : Fin 8256) : EReal :=
  HMul.hMul (α := EReal) (β := EReal) (γ := EReal) (y (ix2 r q))
    (HMul.hMul (α := EReal) (β := EReal) (γ := EReal) (a5 (ix2 r q)) (Ideal.rsqrt (meanSq fun k => a5 (ix2 r k))))

/-- The same by the row's number, nothing beyond the last. -/
def contribAt (y a5 : FVec Ideal Cert.Reference15Ideal.S8256x1024 .f32) (q : Fin 1024) (n : ℕ) : EReal :=
  if h : n < 8256 then contrib y a5 q ⟨n, h⟩ else 0

/-- Of the blocks at a grid point, what the rows of one remainder modulo eight add to a column of the gain's gradient. -/
theorem core_part (v0 d : FVec Ideal S688x1024 .f32) (y a5 : FVec Ideal Cert.Reference15Ideal.S8256x1024 .f32) (t : Fin cfg0.N) (s : Fin 8) (q : Fin 1024)
    (hx : ∀ p (k : Fin 1024), v0 (ix2 p k) = a5 (ix2 (row t p) k)) (hd : ∀ p (k : Fin 1024), d (ix2 p k) = y (ix2 (row t p) k)) :
    k0_pay3 (k0_pay8 v0) d (ix2 s q) = ∑ x : Fin 86, contribAt y a5 q (688 * t.val + (x.val * 8 + s.val)) := by
  pointwise [k0_pay3, k0_pay7, k0_pay8]
  refine Finset.sum_congr rfl fun x _ => ?_
  have ht : t.val < 12 := t.isLt
  have hx86 := x.isLt
  have hs := s.isLt
  rw [contribAt, dif_pos (by omega)]
  simp only [hx, hd]

/-- A step of the partial sums adds the block's. -/
theorem core_step (a d : FVec Ideal S688x1024 .f32) (acc : FVec Ideal S8x1024 .f32) (s : Fin 8) (q : Fin 1024) :
    k0_pay5 a d acc (ix2 s q) = HAdd.hAdd (α := EReal) (β := EReal) (γ := EReal) (acc (ix2 s q)) (k0_pay3 a d (ix2 s q)) := by
  pointwise [k0_pay5, k0_pay3]

/-- The sum over the remainders, the grid points and the groups of eight rows is the sum over all rows. -/
theorem sum_rows (f : ℕ → EReal) : (∑ s : Fin 8, ∑ t ∈ Finset.range 12, ∑ x : Fin 86, f (688 * t + (x.val * 8 + s.val)))
    = ∑ r : Fin 8256, f r.val := by
  refine Eq.trans ?_ (Fin.sum_univ_tiles 12 688 (by norm_num) fun r : Fin 8256 => f r.val).symm
  rw [Finset.sum_comm, Finset.sum_range]
  refine Finset.sum_congr rfl fun t _ => ?_
  refine Eq.trans ?_ (Fin.sum_univ_tiles 86 8 (by norm_num) fun z : Fin 688 => f (t.val * 688 + z.val)).symm
  rw [Finset.sum_comm]
  refine Finset.sum_congr rfl fun x _ => Finset.sum_congr rfl fun s _ => ?_
  rw [mul_comm 688]

/-- The gain's gradient in the reference is the sum of what the rows add. -/
theorem core_dg (acc : FVec Ideal S8x1024 .f32) (y a5 : FVec Ideal Cert.Reference15Ideal.S8256x1024 .f32) (q : Fin 1024)
    (h : ∀ s : Fin 8, acc (ix2 s q) = ∑ t ∈ Finset.range 12, ∑ x : Fin 86, contribAt y a5 q (688 * t + (x.val * 8 + s.val))) :
    k0_pay6 acc (ix2 0 q) = DG y a5 (ix2 0 q) := by
  pointwise [k0_pay6, DG, VR]
  simp only [h]
  refine (sum_rows _).trans ?_
  rw [Fin.sum_univ_one]
  refine Finset.sum_congr rfl fun r _ => ?_
  rw [contribAt, dif_pos r.isLt]
  exact mul_comm _ _

variable (m : (ℓ : Loc nD τ sig) → Buf (Elt Ideal) ℓ)

/-- The gradient of the normalised activations, on the arrays of a memory. -/
abbrev Y (c : Dev nD) : FVec Ideal Cert.Reference15Ideal.S8256x1024 .f32 :=
  DY (m ((c : Thread nD τ).loc main_arg0)) (m ((c : Thread nD τ).loc main_arg1)) (m ((c : Thread nD τ).loc main_arg2))
    (m ((c : Thread nD τ).loc main_arg3))

/-- The sum of products the call computes at a grid point. -/
abbrev dyb (c : Dev nD) (t : Fin cfg0.N) : FVec Ideal S688x1024 .f32 :=
  k0_pay11 (k0_pay9 (View.ld (iblk m c 0 t) (Rect.unit ![0, 0, 0] ![1, 688, 704] inb_S4x688x704_S1x688x704_0_0_0))
      (View.ld (iblk m c 1 t) (Rect.unit ![0, 0, 0] ![1, 704, 1024] inb_S4x704x1024_S1x704x1024_0_0_0))
      (View.ld (iblk m c 0 t) (Rect.unit ![1, 0, 0] ![1, 688, 704] inb_S4x688x704_S1x688x704_1_0_0))
      (View.ld (iblk m c 1 t) (Rect.unit ![1, 0, 0] ![1, 704, 1024] inb_S4x704x1024_S1x704x1024_1_0_0))
      (View.ld (iblk m c 0 t) (Rect.unit ![2, 0, 0] ![1, 688, 704] inb_S4x688x704_S1x688x704_2_0_0))
      (View.ld (iblk m c 1 t) (Rect.unit ![2, 0, 0] ![1, 704, 1024] inb_S4x704x1024_S1x704x1024_2_0_0)))
      (k0_pay10 (View.ld (iblk m c 0 t) (Rect.unit ![3, 0, 0] ![1, 688, 704] inb_S4x688x704_S1x688x704_3_0_0)))
      (View.ld (iblk m c 1 t) (Rect.unit ![3, 0, 0] ![1, 704, 1024] inb_S4x704x1024_S1x704x1024_3_0_0))
      (View.ld (iblk m c 2 t) (Rect.unit ![0, 0, 0] ![1, 688, 704] inb_S4x688x704_S1x688x704_0_0_0))
      (View.ld (iblk m c 3 t) (Rect.unit ![0, 0, 0] ![1, 704, 1024] inb_S4x704x1024_S1x704x1024_0_0_0))
      (View.ld (iblk m c 2 t) (Rect.unit ![1, 0, 0] ![1, 688, 704] inb_S4x688x704_S1x688x704_1_0_0))
      (View.ld (iblk m c 3 t) (Rect.unit ![1, 0, 0] ![1, 704, 1024] inb_S4x704x1024_S1x704x1024_1_0_0))
      (View.ld (iblk m c 2 t) (Rect.unit ![2, 0, 0] ![1, 688, 704] inb_S4x688x704_S1x688x704_2_0_0))
      (View.ld (iblk m c 3 t) (Rect.unit ![2, 0, 0] ![1, 704, 1024] inb_S4x704x1024_S1x704x1024_2_0_0))
      (View.ld (iblk m c 2 t) (Rect.unit ![3, 0, 0] ![1, 688, 704] inb_S4x688x704_S1x688x704_3_0_0))
      (View.ld (iblk m c 3 t) (Rect.unit ![3, 0, 0] ![1, 704, 1024] inb_S4x704x1024_S1x704x1024_3_0_0))

/-- A weight in four slots of rows, transposed, as the call takes it. -/
abbrev slotsT (w : FVec Ideal S1024x2816 .f32) : FVec Ideal S4x704x1024 .bf16 :=
  shapeCast S4x704x1024 (truncf .bf16 (transpose S2816x1024 [1, 0] w transposes_S1024x2816_S2816x1024_1_0) bitsLt_bf16_f32)
    shapeCasts_S2816x1024_S4x704x1024

/-- An entry of a slot is the weight's entry at the slot's column. -/
theorem slotsT_at (w : FVec Ideal S1024x2816 .f32) (s : Fin 4) (k : Fin 704) (q : Fin 1024) (n : Fin 2816)
    (hn : n.val = 704 * s.val + k.val) : slotsT w (ix3 s k q) = w (ix2 q n) := by
  have hk := k.isLt
  pointwise [slotsT]
  refine congrArg (fun z => w (ix2 q z)) (Fin.ext ?_)
  dsimp only
  omega

/-- The first weight as the call finds it. -/
theorem VW_1 (c : Dev nD) : V m c (Pipeline.arrRef spec0 1) = slotsT (m ((c : Thread nD τ).loc main_arg2)) := by
  show V m c main_v2 = _
  unfold V
  after_results_simp <;> rfl

/-- The second weight as the call finds it. -/
theorem VW_3 (c : Dev nD) : V m c (Pipeline.arrRef spec0 3) = slotsT (m ((c : Thread nD τ).loc main_arg3)) := by
  show V m c main_v5 = _
  unfold V
  after_results_simp <;> rfl

/-- Slot 0 of the first weight's block. -/
theorem w1_at0 (c : Dev nD) (t : Fin cfg0.N) (k : Fin 704) (q : Fin 1024) (n : Fin 2816) (hn : n.val = 704 * 0 + k.val) :
    (View.ld (iblk m c 1 t) (Rect.unit ![0, 0, 0] ![1, 704, 1024] inb_S4x704x1024_S1x704x1024_0_0_0) : FVec Ideal S1x704x1024 .bf16) (ix3 0 k q)
      = (m ((c : Thread nD τ).loc main_arg2)) (ix2 q n) := by
  refine Eq.trans ?_ (slotsT_at (m ((c : Thread nD τ).loc main_arg2)) 0 k q n hn)
  unfold iblk
  rw [VW_1]
  refine congrArg (slotsT (m ((c : Thread nD τ).loc main_arg2))) ?_
  blk_point [idx t]
  all_goals first | rfl | exact Nat.add_zero _ | exact (Nat.zero_add _).trans (Nat.one_mul _)

/-- Slot 1 of the first weight's block. -/
theorem w1_at1 (c : Dev nD) (t : Fin cfg0.N) (k : Fin 704) (q : Fin 1024) (n : Fin 2816) (hn : n.val = 704 * 1 + k.val) :
    (View.ld (iblk m c 1 t) (Rect.unit ![1, 0, 0] ![1, 704, 1024] inb_S4x704x1024_S1x704x1024_1_0_0) : FVec Ideal S1x704x1024 .bf16) (ix3 0 k q)
      = (m ((c : Thread nD τ).loc main_arg2)) (ix2 q n) := by
  refine Eq.trans ?_ (slotsT_at (m ((c : Thread nD τ).loc main_arg2)) 1 k q n hn)
  unfold iblk
  rw [VW_1]
  refine congrArg (slotsT (m ((c : Thread nD τ).loc main_arg2))) ?_
  blk_point [idx t]
  all_goals first | rfl | exact Nat.add_zero _ | exact (Nat.zero_add _).trans (Nat.one_mul _)

/-- Slot 2 of the first weight's block. -/
theorem w1_at2 (c : Dev nD) (t : Fin cfg0.N) (k : Fin 704) (q : Fin 1024) (n : Fin 2816) (hn : n.val = 704 * 2 + k.val) :
    (View.ld (iblk m c 1 t) (Rect.unit ![2, 0, 0] ![1, 704, 1024] inb_S4x704x1024_S1x704x1024_2_0_0) : FVec Ideal S1x704x1024 .bf16) (ix3 0 k q)
      = (m ((c : Thread nD τ).loc main_arg2)) (ix2 q n) := by
  refine Eq.trans ?_ (slotsT_at (m ((c : Thread nD τ).loc main_arg2)) 2 k q n hn)
  unfold iblk
  rw [VW_1]
  refine congrArg (slotsT (m ((c : Thread nD τ).loc main_arg2))) ?_
  blk_point [idx t]
  all_goals first | rfl | exact Nat.add_zero _ | exact (Nat.zero_add _).trans (Nat.one_mul _)

/-- Slot 3 of the first weight's block. -/
theorem w1_at3 (c : Dev nD) (t : Fin cfg0.N) (k : Fin 704) (q : Fin 1024) (n : Fin 2816) (hn : n.val = 704 * 3 + k.val) :
    (View.ld (iblk m c 1 t) (Rect.unit ![3, 0, 0] ![1, 704, 1024] inb_S4x704x1024_S1x704x1024_3_0_0) : FVec Ideal S1x704x1024 .bf16) (ix3 0 k q)
      = (m ((c : Thread nD τ).loc main_arg2)) (ix2 q n) := by
  refine Eq.trans ?_ (slotsT_at (m ((c : Thread nD τ).loc main_arg2)) 3 k q n hn)
  unfold iblk
  rw [VW_1]
  refine congrArg (slotsT (m ((c : Thread nD τ).loc main_arg2))) ?_
  blk_point [idx t]
  all_goals first | rfl | exact Nat.add_zero _ | exact (Nat.zero_add _).trans (Nat.one_mul _)

/-- Slot 0 of the second weight's block. -/
theorem w3_at0 (c : Dev nD) (t : Fin cfg0.N) (k : Fin 704) (q : Fin 1024) (n : Fin 2816) (hn : n.val = 704 * 0 + k.val) :
    (View.ld (iblk m c 3 t) (Rect.unit ![0, 0, 0] ![1, 704, 1024] inb_S4x704x1024_S1x704x1024_0_0_0) : FVec Ideal S1x704x1024 .bf16) (ix3 0 k q)
      = (m ((c : Thread nD τ).loc main_arg3)) (ix2 q n) := by
  refine Eq.trans ?_ (slotsT_at (m ((c : Thread nD τ).loc main_arg3)) 0 k q n hn)
  unfold iblk
  rw [VW_3]
  refine congrArg (slotsT (m ((c : Thread nD τ).loc main_arg3))) ?_
  blk_point [idx t]
  all_goals first | rfl | exact Nat.add_zero _ | exact (Nat.zero_add _).trans (Nat.one_mul _)

/-- Slot 1 of the second weight's block. -/
theorem w3_at1 (c : Dev nD) (t : Fin cfg0.N) (k : Fin 704) (q : Fin 1024) (n : Fin 2816) (hn : n.val = 704 * 1 + k.val) :
    (View.ld (iblk m c 3 t) (Rect.unit ![1, 0, 0] ![1, 704, 1024] inb_S4x704x1024_S1x704x1024_1_0_0) : FVec Ideal S1x704x1024 .bf16) (ix3 0 k q)
      = (m ((c : Thread nD τ).loc main_arg3)) (ix2 q n) := by
  refine Eq.trans ?_ (slotsT_at (m ((c : Thread nD τ).loc main_arg3)) 1 k q n hn)
  unfold iblk
  rw [VW_3]
  refine congrArg (slotsT (m ((c : Thread nD τ).loc main_arg3))) ?_
  blk_point [idx t]
  all_goals first | rfl | exact Nat.add_zero _ | exact (Nat.zero_add _).trans (Nat.one_mul _)

/-- Slot 2 of the second weight's block. -/
theorem w3_at2 (c : Dev nD) (t : Fin cfg0.N) (k : Fin 704) (q : Fin 1024) (n : Fin 2816) (hn : n.val = 704 * 2 + k.val) :
    (View.ld (iblk m c 3 t) (Rect.unit ![2, 0, 0] ![1, 704, 1024] inb_S4x704x1024_S1x704x1024_2_0_0) : FVec Ideal S1x704x1024 .bf16) (ix3 0 k q)
      = (m ((c : Thread nD τ).loc main_arg3)) (ix2 q n) := by
  refine Eq.trans ?_ (slotsT_at (m ((c : Thread nD τ).loc main_arg3)) 2 k q n hn)
  unfold iblk
  rw [VW_3]
  refine congrArg (slotsT (m ((c : Thread nD τ).loc main_arg3))) ?_
  blk_point [idx t]
  all_goals first | rfl | exact Nat.add_zero _ | exact (Nat.zero_add _).trans (Nat.one_mul _)

/-- Slot 3 of the second weight's block. -/
theorem w3_at3 (c : Dev nD) (t : Fin cfg0.N) (k : Fin 704) (q : Fin 1024) (n : Fin 2816) (hn : n.val = 704 * 3 + k.val) :
    (View.ld (iblk m c 3 t) (Rect.unit ![3, 0, 0] ![1, 704, 1024] inb_S4x704x1024_S1x704x1024_3_0_0) : FVec Ideal S1x704x1024 .bf16) (ix3 0 k q)
      = (m ((c : Thread nD τ).loc main_arg3)) (ix2 q n) := by
  refine Eq.trans ?_ (slotsT_at (m ((c : Thread nD τ).loc main_arg3)) 3 k q n hn)
  unfold iblk
  rw [VW_3]
  refine congrArg (slotsT (m ((c : Thread nD τ).loc main_arg3))) ?_
  blk_point [idx t]
  all_goals first | rfl | exact Nat.add_zero _ | exact (Nat.zero_add _).trans (Nat.one_mul _)

/-- The sum at a grid point is the reference's, at the rows of the point. -/
theorem dy_at (c : Dev nD) (t : Fin cfg0.N) (p : Fin 688) (q : Fin 1024) :
    dyb m c t (ix2 p q) = Y m c (ix2 (row t p) q) := by
  refine core_dy _ _ _ _ _ _ _ _ _ _ _ _ _ _ _ _ _ _ _ _ p q (row t p) (fun k => ?_) (fun k => ?_) (fun k => ?_) (fun k => ?_)
    (fun k => ?_) (fun k => ?_) (fun k => ?_) (fun k => ?_) (fun k => ?_) (fun k => ?_) (fun k => ?_) (fun k => ?_)
    (fun k => ?_) (fun k => ?_) (fun k => ?_) (fun k => ?_)
  · blk_point [iblk, V, idx t]
  · exact w1_at0 m c t k q _ (by dsimp only; omega)
  · blk_point [iblk, V, idx t]
  · exact w1_at1 m c t k q _ rfl
  · blk_point [iblk, V, idx t]
  · exact w1_at2 m c t k q _ rfl
  · blk_point [iblk, V, idx t]
  · exact w1_at3 m c t k q _ rfl
  · blk_point [iblk, V, idx t]
  · exact w3_at0 m c t k q _ (by dsimp only; omega)
  · blk_point [iblk, V, idx t]
  · exact w3_at1 m c t k q _ rfl
  · blk_point [iblk, V, idx t]
  · exact w3_at2 m c t k q _ rfl
  · blk_point [iblk, V, idx t]
  · exact w3_at3 m c t k q _ rfl

/-- The block of the input at a grid point holds its rows. -/
theorem h_at (c : Dev nD) (t : Fin cfg0.N) (p : Fin 688) (k : Fin 1024) :
    (iblk m c 4 t : FVec Ideal S688x1024 .f32) (ix2 p k) = (m ((c : Thread nD τ).loc main_arg4)) (ix2 (row t p) k) := by
  blk_point [iblk, V, idx t]

/-- The block of the gain is the gain. -/
theorem g_at (c : Dev nD) (t : Fin cfg0.N) (k : Fin 1024) :
    (iblk m c 5 t : FVec Ideal S1x1024 .f32) (ix2 0 k) = (m ((c : Thread nD τ).loc main_arg5)) (ix1 k) := by
  blk_point [iblk, V, idx t]

/-- The block of the residual's gradient at a grid point holds its rows. -/
theorem r_at (c : Dev nD) (t : Fin cfg0.N) (p : Fin 688) (k : Fin 1024) :
    (iblk m c 6 t : FVec Ideal S688x1024 .f32) (ix2 p k) = (m ((c : Thread nD τ).loc main_arg6)) (ix2 (row t p) k) := by
  blk_point [iblk, V, idx t]

/-- The input's gradient at a grid point is the reference's, at the rows of the point. -/
theorem dh_at (c : Dev nD) (t : Fin cfg0.N) (p : Fin 688) (q : Fin 1024) :
    k0_pay1 (k0_pay7 (iblk m c 4 t)) (k0_pay8 (iblk m c 4 t)) (dyb m c t) (iblk m c 5 t) (iblk m c 6 t) (ix2 p q)
      = DH (Y m c) (m ((c : Thread nD τ).loc main_arg4)) (m ((c : Thread nD τ).loc main_arg5)) (m ((c : Thread nD τ).loc main_arg6))
        (ix2 (row t p) q) :=
  core_dh _ _ _ _ _ _ _ _ p q (row t p) (h_at m c t p) (dy_at m c t p) (g_at m c t) (r_at m c t p q)

/-- The gradient of the gain's partial sums after the first grid point. -/
theorem acc_first (c : Dev nD) (t : Fin cfg0.N) (ht : t.val = 0) :
    (outsAt0 m c t.val t.isLt).2.2.2 = k0_pay3 (k0_pay8 (iblk m c 4 t)) (dyb m c t) := by
  rw [outsAt0_A m c t (by omega) (by omega) (by omega)]; dsimp only; frame_out; exact shapeCast_self _ _

/-- After a middle one. -/
theorem acc_middle (c : Dev nD) (t : Fin cfg0.N) (h0 : 1 ≤ t.val) (h1 : t.val < 11) :
    (outsAt0 m c t.val t.isLt).2.2.2 = k0_pay5 (k0_pay8 (iblk m c 4 t)) (dyb m c t)
      (outsAt0 m c (t.val - 1) (by have := t.isLt; omega)).2.2.2 := by
  rw [outsAt0_B m c t (by omega) h0 (by omega)]; dsimp only; frame_out; rw [read_unread_whole]; rfl

/-- What the last one stores as the gain's gradient. -/
theorem gain_last (c : Dev nD) (t : Fin cfg0.N) (ht : t.val % 12 = 11) :
    (outsAt0 m c t.val t.isLt).2.2.1 = k0_pay6 (k0_pay5 (k0_pay8 (iblk m c 4 t)) (dyb m c t)
      (outsAt0 m c (t.val - 1) (by have := t.isLt; omega)).2.2.2) := by
  rw [outsAt0_C m c t (by omega) (by omega) ht]; dsimp only; frame_out; rw [read_unread_whole]; rfl

/-- The partial sums after a grid point before the last are what the rows up to there add. -/
theorem acc_sum (c : Dev nD) (n : ℕ) (hn : n < 11) (s : Fin 8) (q : Fin 1024) :
    (outsAt0 m c n (Nat.lt_trans hn (by decide))).2.2.2 (ix2 s q) = ∑ t ∈ Finset.range (n + 1), ∑ x : Fin 86,
      contribAt (Y m c) (m ((c : Thread nD τ).loc main_arg4)) q (688 * t + (x.val * 8 + s.val)) := by
  induction n with
  | zero =>
    rw [acc_first m c ⟨0, by decide⟩ rfl, core_part _ _ _ _ _ s q (h_at m c _) (dy_at m c _), Finset.sum_range_one]
  | succ n ih =>
    rw [acc_middle m c ⟨n + 1, Nat.lt_trans hn (by decide)⟩ (by dsimp only; omega) hn, core_step,
      core_part _ _ _ _ _ s q (h_at m c _) (dy_at m c _), Finset.sum_range_succ]
    exact congrArg (fun z : EReal => z + _) (ih (by omega))

/-- The input's gradient where a grid point's block lies, in f32. -/
theorem out_dh (c : Dev nD) (t : Fin cfg0.N) : (outsAt0 m c t.val t.isLt).1
    = k0_pay1 (k0_pay7 (iblk m c 4 t)) (k0_pay8 (iblk m c 4 t)) (dyb m c t) (iblk m c 5 t) (iblk m c 6 t) := by
  have ht : t.val < 12 := t.isLt
  by_cases h0 : t.val = 0
  · rw [outsAt0_A m c t (by omega) (by omega) (by omega)]; dsimp only; frame_out; rfl
  · by_cases h1 : t.val % 12 = 11
    · rw [outsAt0_C m c t (by omega) (by omega) h1]; dsimp only; frame_out; rfl
    · rw [outsAt0_B m c t (by omega) (by omega) h1]; dsimp only; frame_out; rfl

/-- The same in bf16. -/
theorem out_dh16 (c : Dev nD) (t : Fin cfg0.N) : (outsAt0 m c t.val t.isLt).2.1
    = k0_pay2 (k0_pay7 (iblk m c 4 t)) (k0_pay8 (iblk m c 4 t)) (dyb m c t) (iblk m c 5 t) (iblk m c 6 t) := by
  have ht : t.val < 12 := t.isLt
  by_cases h0 : t.val = 0
  · rw [outsAt0_A m c t (by omega) (by omega) (by omega)]; dsimp only; frame_out; rfl
  · by_cases h1 : t.val % 12 = 11
    · rw [outsAt0_C m c t (by omega) (by omega) h1]; dsimp only; frame_out; rfl
    · rw [outsAt0_B m c t (by omega) (by omega) h1]; dsimp only; frame_out; rfl

/-- The reference's gradient of the input, on the arrays of a memory. -/
abbrev REF_dh (c : Dev nD) : FVec Ideal Cert.Reference15Ideal.S8256x1024 .f32 :=
  DH (Y m c) (m ((c : Thread nD τ).loc main_arg4)) (m ((c : Thread nD τ).loc main_arg5)) (m ((c : Thread nD τ).loc main_arg6))

/-- The input's gradient at a grid point is the reference's where the block of the first result lies. -/
theorem point_7 (c : Dev nD) (t : Fin cfg0.N) (y : S688x1024.Idx) :
    k0_pay1 (k0_pay7 (iblk m c 4 t)) (k0_pay8 (iblk m c 4 t)) (dyb m c t) (iblk m c 5 t) (iblk m c 6 t) y
      = REF_dh m c (((cfg0.win 7).blk t).view.emb y) := by
  have h := dh_at m c t (y 0) (y 1)
  rw [ix2_eta] at h
  refine h.trans (congrArg (REF_dh m c) ?_)
  blk_point [idx t]

/-- And where the block of the second lies. -/
theorem point_8 (c : Dev nD) (t : Fin cfg0.N) (y : S688x1024.Idx) :
    k0_pay1 (k0_pay7 (iblk m c 4 t)) (k0_pay8 (iblk m c 4 t)) (dyb m c t) (iblk m c 5 t) (iblk m c 6 t) y
      = REF_dh m c (((cfg0.win 8).blk t).view.emb y) := by
  have h := dh_at m c t (y 0) (y 1)
  rw [ix2_eta] at h
  refine h.trans (congrArg (REF_dh m c) ?_)
  blk_point [idx t]

/-- Each column of the gain's gradient that the last grid point stores is the reference's. -/
theorem gain_at (c : Dev nD) (t : Fin cfg0.N) (ht : t.val = 11) (q : Fin 1024) :
    k0_pay6 (k0_pay5 (k0_pay8 (iblk m c 4 t)) (dyb m c t) (outsAt0 m c (t.val - 1) (by have := t.isLt; omega)).2.2.2) (ix2 0 q)
      = DG (Y m c) (m ((c : Thread nD τ).loc main_arg4)) (ix2 0 q) := by
  refine core_dg _ _ _ q fun s => ?_
  rw [core_step, core_part _ _ _ _ _ s q (h_at m c _) (dy_at m c _), acc_sum m c (t.val - 1) (by omega) s q, ht]
  exact (Finset.sum_range_succ _ 11).symm

/-- The gain's gradient that the last grid point stores is the reference's. -/
theorem point_9 (c : Dev nD) (t : Fin cfg0.N) (ht : t.val = 11) (y : S1x1024.Idx) :
    k0_pay6 (k0_pay5 (k0_pay8 (iblk m c 4 t)) (dyb m c t) (outsAt0 m c (t.val - 1) (by have := t.isLt; omega)).2.2.2) y
      = DG (Y m c) (m ((c : Thread nD τ).loc main_arg4)) (((cfg0.win 9).blk t).view.emb y) := by
  obtain ⟨q, rfl⟩ : ∃ q : Fin 1024, y = ix2 0 q :=
    ⟨y 1, ((congrArg (fun z => ix2 z (y 1)) (Subsingleton.elim _ _)).trans (ix2_eta y)).symm⟩
  refine (gain_at m c t ht q).trans (congrArg (DG (Y m c) (m ((c : Thread nD τ).loc main_arg4))) ?_)
  blk_point [idx t]

/-- The input's gradient: the result array after the run is the reference's. -/
theorem final_7 (c : Dev nD) : (dats m 0 c).arrAt 7 (cfgs 0).N = REF_dh m c := by
  refine (dats m 0 c).arrAt_eq_of_covers 7 _ (by decide +kernel) fun t hf y => ?_
  blk_simp; rw [after0_7, out_dh]
  exact point_7 m c t y

/-- The input's gradient in bf16: the result array after the run is the reference's. -/
theorem final_8 (c : Dev nD) : (dats m 0 c).arrAt 8 (cfgs 0).N
    = truncf .bf16 (REF_dh m c) Cert.Reference15Ideal.Gen.bitsLt_bf16_f32 := by
  refine (dats m 0 c).arrAt_eq_of_covers 8 _ (by decide +kernel) fun t hf y => ?_
  blk_simp; rw [after0_8, out_dh16]
  exact point_8 m c t y

/-- The gain's gradient: the result array after the run is the reference's. -/
theorem final_9 (c : Dev nD) : (dats m 0 c).arrAt 9 (cfgs 0).N = DG (Y m c) (m ((c : Thread nD τ).loc main_arg4)) := by
  refine (dats m 0 c).arrAt_eq_of_covers 9 _ (by decide +kernel) fun t hf y => ?_
  have hf' := (flush0_9 t).mp hf
  blk_simp; rw [after0_9, gain_last m c t hf']
  exact point_9 m c t (by have ht : t.val < 12 := t.isLt; omega) y

end Cert.Kernel15Ideal.Val

end
-- ==== Proof.ValK15Run.lean ====
/-
  The fifteenth call against its reference: both run, and the results are equal.
-/
module

public import proofs.«01_k».proof.Defs
public import proofs.«01_k».proof.Proof.Gen.Reference15Ideal.Run
public import proofs.«01_k».proof.Proof.ValK15

@[expose] public section

set_option maxRecDepth 16384

noncomputable section

open Idealize.ShloMosaic Idealize.ShloMosaic.TcCoe Idealize.SL.Sem

namespace Cert.Reference15Ideal.Run
open Cert.Kernel15Ideal.Val
variable (m : (ℓ : Loc Cert.Reference15Ideal.nD Cert.Reference15Ideal.τ Cert.Reference15Ideal.sig) → Buf (Elt Ideal) ℓ)
open Cert.Reference15Ideal

/-- The first result the reference returns, by the parts the call's value is stated with. -/
theorem res47 (c : Dev nD) : Cert.Reference15Ideal.Value.res_main_v47 m c
    = DH (DY (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4))
      (m ((c.tc : Thread nD τ).loc main_arg5)) (m ((c.tc : Thread nD τ).loc main_arg6)) := by
  unfold Cert.Reference15Ideal.Value.res_main_v47
  rfl

/-- The second result is the first one in bf16. -/
theorem res49 (c : Dev nD) : Cert.Reference15Ideal.Value.res_main_v49 m c
    = (truncf .bf16 (Cert.Reference15Ideal.Value.res_main_v47 m c : FVec Ideal S8256x1024 .f32) Cert.Reference15Ideal.Gen.bitsLt_bf16_f32 : FVec Ideal S8256x1024 .bf16) := by
  unfold Cert.Reference15Ideal.Value.res_main_v49 Cert.Reference15Ideal.Value.res_main_v47
  rfl

set_option maxHeartbeats 800000 in
/-- The call and the reference run from memories that agree on the arguments, and their results are equal. -/
theorem pair [Cert.Kernel15Ideal.Facts] [Cert.Reference15Ideal.Facts] : Cert.algebraic_Kernel15Ideal_Reference15Ideal := by
  pair_intro
  · run_from Cert.Kernel15Ideal.Gen.run_main m g
  · refine (θ_run Cert.Reference15Ideal.defs _ _).mono (fun r h c => ?_) (Cert.Reference15Ideal.Value.run m' g')
    obtain ⟨h0, h1, h2, hargs⟩ := h c
    obtain ⟨e0, e1, e2, e3, e4, e5, e6⟩ := hagree c
    have hr : Cert.Reference15Ideal.Value.res_main_v47 m' c = REF_dh m c := by
      rw [res47, e0, e1, e2, e3, e4, e5, e6]
    refine ⟨h0.trans ?_, h1.trans ?_, h2.trans ?_, hargs⟩
    · rw [hr]; exact (final_7 m c).symm
    · rw [res49, hr]; exact (final_8 m c).symm
    · rw [e0, e1, e2, e3, e4]; exact (final_9 m c).symm

end Cert.Reference15Ideal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.PreFinite
public import proofs.«01_k».proof.Proof.ValK1Run
public import proofs.«01_k».proof.Proof.ValK2
public import proofs.«01_k».proof.Proof.ValK3
public import proofs.«01_k».proof.Proof.ValK4
public import proofs.«01_k».proof.Proof.ValK5
public import proofs.«01_k».proof.Proof.ValK6
public import proofs.«01_k».proof.Proof.ValK7
public import proofs.«01_k».proof.Proof.ValK8
public import proofs.«01_k».proof.Proof.ValK9
public import proofs.«01_k».proof.Proof.ValK10
public import proofs.«01_k».proof.Proof.ValK11
public import proofs.«01_k».proof.Proof.ValK12
public import proofs.«01_k».proof.Proof.ValK13
public import proofs.«01_k».proof.Proof.ValK14Run
public import proofs.«01_k».proof.Proof.ValK15Run
public import Idealize.ShloMosaic.Adequacy
public import Idealize.ShloMosaic.Init

@[expose] public section

noncomputable section

namespace Cert.Proof

open Idealize.ShloMosaic Idealize.SL.Sem Cert.Kernel

/-- The gated unit of the feed-forward layer: the call runs, ends quiescent and leaves its arguments as they were. -/
theorem frame_Kernel : Cert.quiescent_Kernel := fun m ρ _ => Cert.Kernel.Gen.frame m ρ

/-- The gated unit of the feed-forward layer: the same over the reals. -/
theorem frame_KernelIdeal : Cert.quiescent_KernelIdeal := fun m ρ _ => Cert.KernelIdeal.Gen.frame m ρ

/-- The gated unit of the feed-forward layer: the reference runs and leaves its arguments as they were. -/
theorem frame_ReferenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)

/-- The gated unit of the feed-forward layer: the same of the calls under the precondition. -/
theorem frame_KernelIdeal_finite : Cert.quiescent_KernelIdeal_pre_finite := fun m ρ _ => Cert.KernelIdeal.Gen.frame m ρ

/-- The gated unit of the feed-forward layer: the same of the reference under the precondition. -/
theorem frame_ReferenceIdeal_finite : Cert.quiescent_ReferenceIdeal_pre_finite := fun m ρ _ =>
  frame_ReferenceIdeal m ρ trivial

/-- The gradient of the feed-forward layer's second product: the call runs, ends quiescent and leaves its arguments as they were. -/
theorem frame_Kernel2 : Cert.quiescent_Kernel2 := fun m ρ _ => Cert.Kernel2.Gen.frame m ρ

/-- The gradient of the feed-forward layer's second product: the same over the reals. -/
theorem frame_Kernel2Ideal : Cert.quiescent_Kernel2Ideal := fun m ρ _ => Cert.Kernel2Ideal.Gen.frame m ρ

/-- The gradient of the feed-forward layer's second product: the reference runs and leaves its arguments as they were. -/
theorem frame_Reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

/-- The gradients of its first and third products: the call runs, ends quiescent and leaves its arguments as they were. -/
theorem frame_Kernel3 : Cert.quiescent_Kernel3 := fun m ρ _ => Cert.Kernel3.Gen.frame m ρ

/-- The gradients of its first and third products: the same over the reals. -/
theorem frame_Kernel3Ideal : Cert.quiescent_Kernel3Ideal := fun m ρ _ => Cert.Kernel3Ideal.Gen.frame m ρ

/-- The gradients of its first and third products: the reference runs and leaves its arguments as they were. -/
theorem frame_Reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The gradients through the gated merge: the call runs, ends quiescent and leaves its arguments as they were. -/
theorem frame_Kernel4 : Cert.quiescent_Kernel4 := fun m ρ _ => Cert.Kernel4.Gen.frame m ρ

/-- The gradients through the gated merge: the same over the reals. -/
theorem frame_Kernel4Ideal : Cert.quiescent_Kernel4Ideal := fun m ρ _ => Cert.Kernel4Ideal.Gen.frame m ρ

/-- The gradients through the gated merge: the reference runs and leaves its arguments as they were. -/
theorem frame_Reference4Ideal : Cert.quiescent_Reference4Ideal := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run m ρ)

/-- The gradient of the input projection: the call runs, ends quiescent and leaves its arguments as they were. -/
theorem frame_Kernel5 : Cert.quiescent_Kernel5 := fun m ρ _ => Cert.Kernel5.Gen.frame m ρ

/-- The gradient of the input projection: the same over the reals. -/
theorem frame_Kernel5Ideal : Cert.quiescent_Kernel5Ideal := fun m ρ _ => Cert.Kernel5Ideal.Gen.frame m ρ

/-- The gradient of the input projection: the reference runs and leaves its arguments as they were. -/
theorem frame_Reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- The gradient of the output projection: the call runs, ends quiescent and leaves its arguments as they were. -/
theorem frame_Kernel6 : Cert.quiescent_Kernel6 := fun m ρ _ => Cert.Kernel6.Gen.frame m ρ

/-- The gradient of the output projection: the same over the reals. -/
theorem frame_Kernel6Ideal : Cert.quiescent_Kernel6Ideal := fun m ρ _ => Cert.Kernel6Ideal.Gen.frame m ρ

/-- The gradient of the output projection: the reference runs and leaves its arguments as they were. -/
theorem frame_Reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- The gradient of the linear unit's products: the call runs, ends quiescent and leaves its arguments as they were. -/
theorem frame_Kernel7 : Cert.quiescent_Kernel7 := fun m ρ _ => Cert.Kernel7.Gen.frame m ρ

/-- The gradient of the linear unit's products: the same over the reals. -/
theorem frame_Kernel7Ideal : Cert.quiescent_Kernel7Ideal := fun m ρ _ => Cert.Kernel7Ideal.Gen.frame m ρ

/-- The gradient of the linear unit's products: the reference runs and leaves its arguments as they were. -/
theorem frame_Reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- The feed-forward layer's second product: the call runs, ends quiescent and leaves its arguments as they were. -/
theorem frame_Kernel8 : Cert.quiescent_Kernel8 := fun m ρ _ => Cert.Kernel8.Gen.frame m ρ

/-- The feed-forward layer's second product: the same over the reals. -/
theorem frame_Kernel8Ideal : Cert.quiescent_Kernel8Ideal := fun m ρ _ => Cert.Kernel8Ideal.Gen.frame m ρ

/-- The feed-forward layer's second product: the reference runs and leaves its arguments as they were. -/
theorem frame_Reference8Ideal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

set_option maxHeartbeats 1600000 in
/-- The gradients of the gated unit's two hidden arrays: over the reals, from equal arguments of which four have no infinite entry,
    the calls and the reference end with equal results. -/
theorem algebraic_1 : Cert.algebraic_KernelIdeal_ReferenceIdeal_pre_finite := by
  intro m g m' g' hpre hagree
  refine ⟨_, _, Cert.KernelIdeal.Val.run m g (fun c => Cert.Finite.reals _ _ _ _ _ (hpre c)), ?_⟩
  refine (θ_run Cert.ReferenceIdeal.defs _ _).mono (fun r h c => ?_) (Cert.ReferenceIdeal.Value.run m' g')
  obtain ⟨h15, h18, hargs⟩ := h c
  obtain ⟨e0, e1, e2, e3, e4⟩ := hagree c
  refine ⟨h15.trans ?_, h18.trans ?_, hargs⟩
  · rw [e0, e1, e2, e3, e4]
  · rw [e0, e1, e2, e4]

set_option maxHeartbeats 1600000 in
/-- The gradient of the feed-forward layer's second product: over the reals, from equal arguments, the call and the reference end with equal results. -/
theorem algebraic_2 : Cert.algebraic_Kernel2Ideal_Reference2Ideal := by
  pair_intro
  · run_from Cert.Kernel2Ideal.Gen.run_main m g
  · hlo_run
    exact (Cert.Kernel2Ideal.Val.final m c).symm

set_option maxHeartbeats 1600000 in
/-- The gradients of its first and third products: over the reals, from equal arguments, the call and the reference end with equal results. -/
theorem algebraic_3 : Cert.algebraic_Kernel3Ideal_Reference3Ideal := by
  pair_intro
  · run_from Cert.Kernel3Ideal.Gen.run_main m g
  · hlo_run
    exact (Cert.Kernel3Ideal.Val.final m c).symm

set_option maxHeartbeats 1600000 in
/-- The gradients through the gated merge: over the reals, from equal arguments, the call and the reference end with equal results. -/
theorem algebraic_4 : Cert.algebraic_Kernel4Ideal_Reference4Ideal := by
  pair_intro
  · run_from Cert.Kernel4Ideal.Gen.run_main m g
  · hlo_run
    · exact (Cert.Kernel4Ideal.Val.final_7 m c).symm
    · exact (Cert.Kernel4Ideal.Val.final_8 m c).symm
    · exact (Cert.Kernel4Ideal.Val.final_9 m c).symm
    · exact (Cert.Kernel4Ideal.Val.final_10 m c).symm
    · exact (Cert.Kernel4Ideal.Val.final_11 m c).symm

set_option maxHeartbeats 1600000 in
/-- The gradient of the input projection: over the reals, from equal arguments, the call and the reference end with equal results. -/
theorem algebraic_5 : Cert.algebraic_Kernel5Ideal_Reference5Ideal := by
  pair_intro
  · run_from Cert.Kernel5Ideal.Gen.run_main m g
  · hlo_run
    exact (Cert.Kernel5Ideal.Val.final m c).symm

set_option maxHeartbeats 1600000 in
/-- The gradient of the output projection: over the reals, from equal arguments, the call and the reference end with equal results. -/
theorem algebraic_6 : Cert.algebraic_Kernel6Ideal_Reference6Ideal := by
  pair_intro
  · run_from Cert.Kernel6Ideal.Gen.run_main m g
  · hlo_run
    exact (Cert.Kernel6Ideal.Val.final m c).symm

set_option maxHeartbeats 1600000 in
/-- The gradient of the linear unit's products: over the reals, from equal arguments, the call and the reference end with equal results. -/
theorem algebraic_7 : Cert.algebraic_Kernel7Ideal_Reference7Ideal := by
  pair_intro
  · run_from Cert.Kernel7Ideal.Gen.run_main m g
  · hlo_run
    exact (Cert.Kernel7Ideal.Val.final m c).symm

set_option maxHeartbeats 1600000 in
/-- The feed-forward layer's second product: over the reals, from equal arguments, the call and the reference end with equal results. -/
theorem algebraic_8 : Cert.algebraic_Kernel8Ideal_Reference8Ideal := by
  pair_intro
  · run_from Cert.Kernel8Ideal.Gen.run_main m g
  · hlo_run
    exact (Cert.Kernel8Ideal.Val.final m c).symm

/-- The queries: the call runs, ends quiescent and leaves its arguments as they were. -/
theorem frame_Kernel9 : Cert.quiescent_Kernel9 := fun m ρ _ => Cert.Kernel9.Gen.frame m ρ

/-- The queries: the same over the reals. -/
theorem frame_Kernel9Ideal : Cert.quiescent_Kernel9Ideal := fun m ρ _ => Cert.Kernel9Ideal.Gen.frame m ρ

/-- The queries: the reference runs and leaves its arguments as they were. -/
theorem frame_Reference9Ideal : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run m ρ)

/-- The queries: from equal arguments the call and the reference give equal arrays. -/
theorem algebraic_9 : Cert.algebraic_Kernel9Ideal_Reference9Ideal := by
  pair_intro
  · run_from Cert.Kernel9Ideal.Gen.run_main m g
  · hlo_run
    exact (Cert.Kernel9Ideal.Val.final m c).symm

/-- The gates: the call runs, ends quiescent and leaves its arguments as they were. -/
theorem frame_Kernel10 : Cert.quiescent_Kernel10 := fun m ρ _ => Cert.Kernel10.Gen.frame m ρ

/-- The gates: the same over the reals. -/
theorem frame_Kernel10Ideal : Cert.quiescent_Kernel10Ideal := fun m ρ _ => Cert.Kernel10Ideal.Gen.frame m ρ

/-- The gates: the reference runs and leaves its arguments as they were. -/
theorem frame_Reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run m ρ)

/-- The gates: from equal arguments the call and the reference give equal arrays. -/
theorem algebraic_10 : Cert.algebraic_Kernel10Ideal_Reference10Ideal := by
  pair_intro
  · run_from Cert.Kernel10Ideal.Gen.run_main m g
  · hlo_run
    exact (Cert.Kernel10Ideal.Val.final m c).symm

/-- The keys, values and state-space input: the call runs, ends quiescent and leaves its arguments as they were. -/
theorem frame_Kernel11 : Cert.quiescent_Kernel11 := fun m ρ _ => Cert.Kernel11.Gen.frame m ρ

/-- The keys, values and state-space input: the same over the reals. -/
theorem frame_Kernel11Ideal : Cert.quiescent_Kernel11Ideal := fun m ρ _ => Cert.Kernel11Ideal.Gen.frame m ρ

/-- The keys, values and state-space input: the reference runs and leaves its arguments as they were. -/
theorem frame_Reference11Ideal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run m ρ)

/-- The keys, values and state-space input: from equal arguments the call and the reference give equal arrays. -/
theorem algebraic_11 : Cert.algebraic_Kernel11Ideal_Reference11Ideal := by
  pair_intro
  · run_from Cert.Kernel11Ideal.Gen.run_main m g
  · hlo_run
    exact (Cert.Kernel11Ideal.Val.final m c).symm

/-- A product of the gated linear unit: the call runs, ends quiescent and leaves its arguments as they were. -/
theorem frame_Kernel12 : Cert.quiescent_Kernel12 := fun m ρ _ => Cert.Kernel12.Gen.frame m ρ

/-- A product of the gated linear unit: the same over the reals. -/
theorem frame_Kernel12Ideal : Cert.quiescent_Kernel12Ideal := fun m ρ _ => Cert.Kernel12Ideal.Gen.frame m ρ

/-- A product of the gated linear unit: the reference runs and leaves its arguments as they were. -/
theorem frame_Reference12Ideal : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run m ρ)

/-- A product of the gated linear unit: from equal arguments the call and the reference give equal arrays. -/
theorem algebraic_12 : Cert.algebraic_Kernel12Ideal_Reference12Ideal := by
  pair_intro
  · run_from Cert.Kernel12Ideal.Gen.run_main m g
  · hlo_run
    exact (Cert.Kernel12Ideal.Val.final m c).symm

/-- The output projection: the call runs, ends quiescent and leaves its arguments as they were. -/
theorem frame_Kernel13 : Cert.quiescent_Kernel13 := fun m ρ _ => Cert.Kernel13.Gen.frame m ρ

/-- The output projection: the same over the reals. -/
theorem frame_Kernel13Ideal : Cert.quiescent_Kernel13Ideal := fun m ρ _ => Cert.Kernel13Ideal.Gen.frame m ρ

/-- The output projection: the reference runs and leaves its arguments as they were. -/
theorem frame_Reference13Ideal : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run m ρ)

/-- The output projection: from equal arguments the call and the reference give equal arrays. -/
theorem algebraic_13 : Cert.algebraic_Kernel13Ideal_Reference13Ideal := by
  pair_intro
  · run_from Cert.Kernel13Ideal.Gen.run_main m g
  · hlo_run
    exact (Cert.Kernel13Ideal.Val.final m c).symm

/-- The gradient of the mixers' normalisation: the call runs, ends quiescent and leaves its arguments as they were. -/
theorem frame_Kernel14 : Cert.quiescent_Kernel14 := fun m ρ _ => Cert.Kernel14.Gen.frame m ρ

/-- The gradient of the mixers' normalisation: the same over the reals. -/
theorem frame_Kernel14Ideal : Cert.quiescent_Kernel14Ideal := fun m ρ _ => Cert.Kernel14Ideal.Gen.frame m ρ

/-- The gradient of the mixers' normalisation: the reference runs and leaves its arguments as they were. -/
theorem frame_Reference14Ideal : Cert.quiescent_Reference14Ideal := fun m ρ _ =>
  (θ_run Cert.Reference14Ideal.defs _ _).mono (fun r h => ⟨fun c => (h c).2.2.2, Idealize.ShloMosaic.sem_eq_zero_of_no_sems (by decide) r.2⟩)
    (Cert.Reference14Ideal.Value.run m ρ)

/-- The gradient of the mixers' normalisation: over the reals, from equal arguments, the call and the reference end with equal results. -/
theorem algebraic_14 : Cert.algebraic_Kernel14Ideal_Reference14Ideal := Cert.Reference14Ideal.Run.pair

/-- The gradient of the feed-forward layer's normalisation: the call runs, ends quiescent and leaves its arguments as they were. -/
theorem frame_Kernel15 : Cert.quiescent_Kernel15 := fun m ρ _ => Cert.Kernel15.Gen.frame m ρ

/-- The gradient of the feed-forward layer's normalisation: the same over the reals. -/
theorem frame_Kernel15Ideal : Cert.quiescent_Kernel15Ideal := fun m ρ _ => Cert.Kernel15Ideal.Gen.frame m ρ

/-- The gradient of the feed-forward layer's normalisation: the reference runs and leaves its arguments as they were. -/
theorem frame_Reference15Ideal : Cert.quiescent_Reference15Ideal := fun m ρ _ =>
  (θ_run Cert.Reference15Ideal.defs _ _).mono (fun r h => ⟨fun c => (h c).2.2.2, Idealize.ShloMosaic.sem_eq_zero_of_no_sems (by decide) r.2⟩)
    (Cert.Reference15Ideal.Value.run m ρ)

/-- The gradient of the feed-forward layer's normalisation: over the reals, from equal arguments, the call and the reference end with equal results. -/
theorem algebraic_15 : Cert.algebraic_Kernel15Ideal_Reference15Ideal := Cert.Reference15Ideal.Run.pair

/-- The claims, all of them. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Finite.facts,
  frame_Kernel, frame_KernelIdeal, frame_KernelIdeal_finite, frame_ReferenceIdeal, frame_ReferenceIdeal_finite, frame_Kernel2, frame_Kernel2Ideal, frame_Reference2Ideal, frame_Kernel3, frame_Kernel3Ideal, frame_Reference3Ideal, frame_Kernel4, frame_Kernel4Ideal, frame_Reference4Ideal, frame_Kernel5, frame_Kernel5Ideal, frame_Reference5Ideal, frame_Kernel6, frame_Kernel6Ideal, frame_Reference6Ideal, frame_Kernel7, frame_Kernel7Ideal, frame_Reference7Ideal, frame_Kernel8, frame_Kernel8Ideal, frame_Reference8Ideal, frame_Kernel9, frame_Kernel9Ideal, frame_Reference9Ideal, frame_Kernel10, frame_Kernel10Ideal, frame_Reference10Ideal, frame_Kernel11, frame_Kernel11Ideal, frame_Reference11Ideal, frame_Kernel12, frame_Kernel12Ideal, frame_Reference12Ideal, frame_Kernel13, frame_Kernel13Ideal, frame_Reference13Ideal, frame_Kernel14, frame_Kernel14Ideal, frame_Reference14Ideal, frame_Kernel15, frame_Kernel15Ideal, frame_Reference15Ideal, trivial, algebraic_1, trivial, algebraic_2, trivial, algebraic_3, trivial, algebraic_4, trivial, algebraic_5, trivial, algebraic_6, trivial, algebraic_7, trivial, algebraic_8, trivial, algebraic_9, trivial, algebraic_10, trivial, algebraic_11, trivial, algebraic_12, trivial, algebraic_13, trivial, algebraic_14, trivial, algebraic_15⟩

end Cert.Proof

end
